-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v30)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v77) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v54)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v54) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v120) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S32768x2048 : Shape := ⟨2, ![32768, 2048]⟩
abbrev S2x2x2048x5632 : Shape := ⟨4, ![2, 2, 2048, 5632]⟩
abbrev S32768x5632 : Shape := ⟨2, ![32768, 5632]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2x2x2048x5632, .f32⟩
  | .hbm, ⟨2, _⟩ => ⟨S2x2x2048x5632, .f32⟩
  | .hbm, ⟨3, _⟩ => ⟨S2x2x2048x5632, .bf16⟩
  | .hbm, ⟨4, _⟩ => ⟨S2x2x2048x5632, .bf16⟩
  | .hbm, ⟨5, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1024x512, .bf16⟩
  | .local _ .vmem, ⟨7, _⟩ => ⟨S1024x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32768x2048 : Shape := ⟨2, ![32768, 2048]⟩
abbrev S2x2x2048x5632 : Shape := ⟨4, ![2, 2, 2048, 5632]⟩
abbrev S1x1x2048x5632 : Shape := ⟨4, ![1, 1, 2048, 5632]⟩
abbrev S2048x5632 : Shape := ⟨2, ![2048, 5632]⟩
abbrev S32768x5632 : Shape := ⟨2, ![32768, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2x2048x5632, .f32⟩
  | .hbm, ⟨2, _⟩ => ⟨S2x2x2048x5632, .f32⟩
  | .hbm, ⟨3, _⟩ => ⟨S1x1x2048x5632, .f32⟩
  | .hbm, ⟨4, _⟩ => ⟨S2048x5632, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S_, .f32⟩
  | .hbm, ⟨9, _⟩ => ⟨S32768x5632, .f32⟩
  | .hbm, ⟨10, _⟩ => ⟨S32768x5632, .f32⟩
  | .hbm, ⟨11, _⟩ => ⟨S_, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S1x1x2048x5632, .f32⟩
  | .hbm, ⟨16, _⟩ => ⟨S2048x5632, .f32⟩
  | .hbm, ⟨17, _⟩ => ⟨S32768x5632, .f32⟩
  | .hbm, ⟨18, _⟩ => ⟨S32768x5632, .f32⟩
  | .hbm, ⟨19, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel2.lean ====
abbrev S32768x2048 : Shape := ⟨2, ![32768, 2048]⟩
abbrev S32768x5632 : Shape := ⟨2, ![32768, 5632]⟩
abbrev S2x2x5632x2048 : Shape := ⟨4, ![2, 2, 5632, 2048]⟩
abbrev S2x3x2048 : Shape := ⟨3, ![2, 3, 2048]⟩
abbrev S_ : Shape := ⟨0, ![]⟩
abbrev S1x1x2048 : Shape := ⟨3, ![1, 1, 2048]⟩
abbrev S2048 : Shape := ⟨1, ![2048]⟩
abbrev S1x2048 : Shape := ⟨2, ![1, 2048]⟩
abbrev S256x2048 : Shape := ⟨2, ![256, 2048]⟩
abbrev S256x5632 : Shape := ⟨2, ![256, 5632]⟩
abbrev S1x1x5632x2048 : Shape := ⟨4, ![1, 1, 5632, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 17
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x5632, .bf16⟩
  | .hbm, ⟨2, _⟩ => ⟨S2x2x5632x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S2x2x5632x2048, .f32⟩
  | .hbm, ⟨7, _⟩ => ⟨S2x2x5632x2048, .f32⟩
  | .hbm, ⟨8, _⟩ => ⟨S2x2x5632x2048, .bf16⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S32768x2048, .f32⟩
  | .hbm, ⟨16, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x5632, .bf16⟩
  | .local _ .vmem, ⟨3, _⟩ => ⟨S256x5632, .bf16⟩
  | .local _ .vmem, ⟨4, _⟩ => ⟨S1x1x5632x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x2048 : Shape := ⟨2, ![32768, 2048]⟩
abbrev S32768x5632 : Shape := ⟨2, ![32768, 5632]⟩
abbrev S2x2x5632x2048 : Shape := ⟨4, ![2, 2, 5632, 2048]⟩
abbrev S2x3x2048 : Shape := ⟨3, ![2, 3, 2048]⟩
abbrev S_ : Shape := ⟨0, ![]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x5632, .bf16⟩
  | .hbm, ⟨2, _⟩ => ⟨S2x2x5632x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x5632, .f32⟩
  | .hbm, ⟨9, _⟩ => ⟨S1x1x5632x2048, .f32⟩
  | .hbm, ⟨10, _⟩ => ⟨S5632x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x1x2048, .f32⟩
  | .hbm, ⟨17, _⟩ => ⟨S2048, .f32⟩
  | .hbm, ⟨18, _⟩ => ⟨S1x1x2048, .f32⟩
  | .hbm, ⟨19, _⟩ => ⟨S2048, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S1x2048, .f32⟩
  | .hbm, ⟨44, _⟩ => ⟨S32768x2048, .f32⟩
  | .hbm, ⟨45, _⟩ => ⟨S32768x2048, .f32⟩
  | .hbm, ⟨46, _⟩ => ⟨S1x2048, .f32⟩
  | .hbm, ⟨47, _⟩ => ⟨S32768x2048, .f32⟩
  | .hbm, ⟨48, _⟩ => ⟨S32768x2048, .f32⟩
  | .hbm, ⟨49, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel3.lean ====
abbrev S32768x2048 : Shape := ⟨2, ![32768, 2048]⟩
abbrev S32768x2816 : Shape := ⟨2, ![32768, 2816]⟩
abbrev S1x2816x2048 : Shape := ⟨3, ![1, 2816, 2048]⟩
abbrev S2x3x2048 : Shape := ⟨3, ![2, 3, 2048]⟩
abbrev S2816x2048 : Shape := ⟨2, ![2816, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512x2816 : Shape := ⟨2, ![512, 2816]⟩
abbrev S256x2816 : Shape := ⟨2, ![256, 2816]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x2816, .bf16⟩
  | .hbm, ⟨2, _⟩ => ⟨S1x2816x2048, .f32⟩
  | .hbm, ⟨3, _⟩ => ⟨S2x3x2048, .f32⟩
  | .hbm, ⟨4, _⟩ => ⟨S2x3x2048, .f32⟩
  | .hbm, ⟨5, _⟩ => ⟨S2816x2048, .f32⟩
  | .hbm, ⟨6, _⟩ => ⟨S2816x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2816, .bf16⟩
  | .local _ .vmem, ⟨3, _⟩ => ⟨S512x2816, .bf16⟩
  | .local _ .vmem, ⟨4, _⟩ => ⟨S2816x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x2048 : Shape := ⟨2, ![32768, 2048]⟩
abbrev S32768x2816 : Shape := ⟨2, ![32768, 2816]⟩
abbrev S1x2816x2048 : Shape := ⟨3, ![1, 2816, 2048]⟩
abbrev S2x3x2048 : Shape := ⟨3, ![2, 3, 2048]⟩
abbrev S_ : Shape := ⟨0, ![]⟩
abbrev S2816x2048 : Shape := ⟨2, ![2816, 2048]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2816, .bf16⟩
  | .hbm, ⟨2, _⟩ => ⟨S1x2816x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2816, .f32⟩
  | .hbm, ⟨9, _⟩ => ⟨S2816x2048, .f32⟩
  | .hbm, ⟨10, _⟩ => ⟨S32768x2048, .f32⟩
  | .hbm, ⟨11, _⟩ => ⟨S32768x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S32768x2048, .f32⟩
  | .hbm, ⟨41, _⟩ => ⟨S32768x2048, .f32⟩
  | .hbm, ⟨42, _⟩ => ⟨S1x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S32768x2048 : Shape := ⟨2, ![32768, 2048]⟩
abbrev S32768x1024 : Shape := ⟨2, ![32768, 1024]⟩
abbrev S1x2048x2048 : Shape := ⟨3, ![1, 2048, 2048]⟩
abbrev S2x3x2048 : Shape := ⟨3, ![2, 3, 2048]⟩
abbrev S2048x2048 : Shape := ⟨2, ![2048, 2048]⟩
abbrev S1024x2048 : Shape := ⟨2, ![1024, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S2x3x2048, .f32⟩
  | .hbm, ⟨5, _⟩ => ⟨S2x3x2048, .f32⟩
  | .hbm, ⟨6, _⟩ => ⟨S2048x2048, .f32⟩
  | .hbm, ⟨7, _⟩ => ⟨S2048x2048, .bf16⟩
  | .hbm, ⟨8, _⟩ => ⟨S1024x2048, .bf16⟩
  | .hbm, ⟨9, _⟩ => ⟨S1024x2048, .bf16⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S32768x1024 : Shape := ⟨2, ![32768, 1024]⟩
abbrev S1x2048x2048 : Shape := ⟨3, ![1, 2048, 2048]⟩
abbrev S2x3x2048 : Shape := ⟨3, ![2, 3, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S2x3x2048, .f32⟩
  | .hbm, ⟨5, _⟩ => ⟨S2x3x2048, .f32⟩
  | .hbm, ⟨6, _⟩ => ⟨S32768x2048, .bf16⟩
  | .hbm, ⟨7, _⟩ => ⟨S32768x2048, .f32⟩
  | .hbm, ⟨8, _⟩ => ⟨S2048x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S1x1x2048, .f32⟩
  | .hbm, ⟨15, _⟩ => ⟨S2048, .f32⟩
  | .hbm, ⟨16, _⟩ => ⟨S1x1x2048, .f32⟩
  | .hbm, ⟨17, _⟩ => ⟨S2048, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S32768x2048, .f32⟩
  | .hbm, ⟨46, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel5.lean ====
abbrev S32768x2048 : Shape := ⟨2, ![32768, 2048]⟩
abbrev S1x2048x5632 : Shape := ⟨3, ![1, 2048, 5632]⟩
abbrev S2048x5632 : Shape := ⟨2, ![2048, 5632]⟩
abbrev S32768x5632 : Shape := ⟨2, ![32768, 5632]⟩
abbrev S512x2048 : Shape := ⟨2, ![512, 2048]⟩
abbrev S2048x2816 : Shape := ⟨2, ![2048, 2816]⟩
abbrev S512x2816 : Shape := ⟨2, ![512, 2816]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S1x2048x5632, .f32⟩
  | .hbm, ⟨2, _⟩ => ⟨S2048x5632, .f32⟩
  | .hbm, ⟨3, _⟩ => ⟨S2048x5632, .bf16⟩
  | .hbm, ⟨4, _⟩ => ⟨S32768x5632, .f32⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .f32⟩
  | .local _ .vmem, ⟨5, _⟩ => ⟨S512x2816, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S1x2048x5632 : Shape := ⟨3, ![1, 2048, 5632]⟩
abbrev S2048x5632 : Shape := ⟨2, ![2048, 5632]⟩
abbrev S32768x5632 : Shape := ⟨2, ![32768, 5632]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x5632, .f32⟩
  | .hbm, ⟨2, _⟩ => ⟨S32768x2048, .f32⟩
  | .hbm, ⟨3, _⟩ => ⟨S2048x5632, .f32⟩
  | .hbm, ⟨4, _⟩ => ⟨S32768x5632, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S32768x2048 : Shape := ⟨2, ![32768, 2048]⟩
abbrev S1x2048x7168 : Shape := ⟨3, ![1, 2048, 7168]⟩
abbrev S2048x7168 : Shape := ⟨2, ![2048, 7168]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S1x2048x7168, .f32⟩
  | .hbm, ⟨2, _⟩ => ⟨S2048x7168, .f32⟩
  | .hbm, ⟨3, _⟩ => ⟨S2048x7168, .bf16⟩
  | .hbm, ⟨4, _⟩ => ⟨S2048x1024, .bf16⟩
  | .hbm, ⟨5, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S1x2048x7168 : Shape := ⟨3, ![1, 2048, 7168]⟩
abbrev S2048x7168 : Shape := ⟨2, ![2048, 7168]⟩
abbrev S32768x7168 : Shape := ⟨2, ![32768, 7168]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x7168, .f32⟩
  | .hbm, ⟨2, _⟩ => ⟨S32768x2048, .f32⟩
  | .hbm, ⟨3, _⟩ => ⟨S2048x7168, .f32⟩
  | .hbm, ⟨4, _⟩ => ⟨S32768x7168, .f32⟩
  | .hbm, ⟨5, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S32768x2048 : Shape := ⟨2, ![32768, 2048]⟩
abbrev S1x2048x7168 : Shape := ⟨3, ![1, 2048, 7168]⟩
abbrev S2048x7168 : Shape := ⟨2, ![2048, 7168]⟩
abbrev S2048x1024 : Shape := ⟨2, ![2048, 1024]⟩
abbrev S2048x3072 : Shape := ⟨2, ![2048, 3072]⟩
abbrev S2048x4096 : Shape := ⟨2, ![2048, 4096]⟩
abbrev S32768x4096 : Shape := ⟨2, ![32768, 4096]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S1x2048x7168, .f32⟩
  | .hbm, ⟨2, _⟩ => ⟨S2048x7168, .f32⟩
  | .hbm, ⟨3, _⟩ => ⟨S2048x7168, .bf16⟩
  | .hbm, ⟨4, _⟩ => ⟨S2048x1024, .bf16⟩
  | .hbm, ⟨5, _⟩ => ⟨S2048x3072, .bf16⟩
  | .hbm, ⟨6, _⟩ => ⟨S2048x4096, .bf16⟩
  | .hbm, ⟨7, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32768x2048 : Shape := ⟨2, ![32768, 2048]⟩
abbrev S1x2048x7168 : Shape := ⟨3, ![1, 2048, 7168]⟩
abbrev S2048x7168 : Shape := ⟨2, ![2048, 7168]⟩
abbrev S32768x7168 : Shape := ⟨2, ![32768, 7168]⟩
abbrev S32768x1024 : Shape := ⟨2, ![32768, 1024]⟩
abbrev S_ : Shape := ⟨0, ![]⟩
abbrev S32768x3072 : Shape := ⟨2, ![32768, 3072]⟩
abbrev S32768x4096 : Shape := ⟨2, ![32768, 4096]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x7168, .f32⟩
  | .hbm, ⟨2, _⟩ => ⟨S32768x2048, .f32⟩
  | .hbm, ⟨3, _⟩ => ⟨S2048x7168, .f32⟩
  | .hbm, ⟨4, _⟩ => ⟨S32768x7168, .f32⟩
  | .hbm, ⟨5, _⟩ => ⟨S32768x1024, .f32⟩
  | .hbm, ⟨6, _⟩ => ⟨S32768x1024, .f32⟩
  | .hbm, ⟨7, _⟩ => ⟨S32768x2048, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x3072, .f32⟩
  | .hbm, ⟨12, _⟩ => ⟨S32768x4096, .f32⟩
  | .hbm, ⟨13, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S32768x2048 : Shape := ⟨2, ![32768, 2048]⟩
abbrev S1x2048x7168 : Shape := ⟨3, ![1, 2048, 7168]⟩
abbrev S2048x7168 : Shape := ⟨2, ![2048, 7168]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x128 : Shape := ⟨3, ![1, 8192, 128]⟩
abbrev S2x8192x128 : Shape := ⟨3, ![2, 8192, 128]⟩
abbrev S2048x2048 : Shape := ⟨2, ![2048, 2048]⟩
abbrev S1024x2048 : Shape := ⟨2, ![1024, 2048]⟩
abbrev S2048x1024 : Shape := ⟨2, ![2048, 1024]⟩
abbrev S1x1024x128 : Shape := ⟨3, ![1, 1024, 128]⟩
abbrev S1024x1024 : Shape := ⟨2, ![1024, 1024]⟩
abbrev S1024x128 : Shape := ⟨2, ![1024, 128]⟩

abbrev nBuf : Space → Nat
  | .hbm => 37
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S1x2048x7168, .f32⟩
  | .hbm, ⟨2, _⟩ => ⟨S2048x7168, .f32⟩
  | .hbm, ⟨3, _⟩ => ⟨S2048x7168, .bf16⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8192, .f32⟩
  | .hbm, ⟨13, _⟩ => ⟨S8192x1, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S1x8192x128, .f32⟩
  | .hbm, ⟨27, _⟩ => ⟨S1x8192x128, .f32⟩
  | .hbm, ⟨28, _⟩ => ⟨S2x8192x128, .f32⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S1x8192x128, .f32⟩
  | .hbm, ⟨33, _⟩ => ⟨S1x8192x128, .f32⟩
  | .hbm, ⟨34, _⟩ => ⟨S2x8192x128, .f32⟩
  | .hbm, ⟨35, _⟩ => ⟨S2048x2048, .bf16⟩
  | .hbm, ⟨36, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x1024, .bf16⟩
  | .local _ .vmem, ⟨9, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let c0_i32_5 : BitVec 32 := 0#32
  let v17 : BitVec 1 := Scalar.cmpi .eq c8_i32 c0_i32_5
  let c1_i32_6 : BitVec 32 := 1#32
  let v18 : BitVec 32 := Scalar.select v17 c1_i32_6 c8_i32
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let c0_i32_5 : BitVec 32 := 0#32
  let v17 : BitVec 1 := Scalar.cmpi .eq c8_i32 c0_i32_5
  let c1_i32_6 : BitVec 32 := 1#32
  let v18 : BitVec 32 := Scalar.select v17 c1_i32_6 c8_i32
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S32768x2048 : Shape := ⟨2, ![32768, 2048]⟩
abbrev S1x2048x7168 : Shape := ⟨3, ![1, 2048, 7168]⟩
abbrev S2048x7168 : Shape := ⟨2, ![2048, 7168]⟩
abbrev S32768x7168 : Shape := ⟨2, ![32768, 7168]⟩
abbrev S8192 : Shape := ⟨1, ![8192]⟩
abbrev S32768x1024 : Shape := ⟨2, ![32768, 1024]⟩
abbrev S4x8192x8x128 : Shape := ⟨4, ![4, 8192, 8, 128]⟩
abbrev S4x8x8192x128 : Shape := ⟨4, ![4, 8, 8192, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S4x8x8192x64 : Shape := ⟨4, ![4, 8, 8192, 64]⟩
abbrev S1x1x8192x64 : Shape := ⟨4, ![1, 1, 8192, 64]⟩

abbrev nBuf : Space → Nat
  | .hbm => 85
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x7168, .f32⟩
  | .hbm, ⟨2, _⟩ => ⟨S32768x2048, .f32⟩
  | .hbm, ⟨3, _⟩ => ⟨S2048x7168, .f32⟩
  | .hbm, ⟨4, _⟩ => ⟨S32768x7168, .f32⟩
  | .hbm, ⟨5, _⟩ => ⟨S8192, .f32⟩
  | .hbm, ⟨6, _⟩ => ⟨S32768x1024, .f32⟩
  | .hbm, ⟨7, _⟩ => ⟨S4x8192x8x128, .f32⟩
  | .hbm, ⟨8, _⟩ => ⟨S4x8x8192x128, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S4x8x8192x64, .f32⟩
  | .hbm, ⟨25, _⟩ => ⟨S4x8x8192x64, .f32⟩
  | .hbm, ⟨26, _⟩ => ⟨S1x1x8192x64, .f32⟩
  | .hbm, ⟨27, _⟩ => ⟨S4x8x8192x64, .f32⟩
  | .hbm, ⟨28, _⟩ => ⟨S4x8x8192x64, .f32⟩
  | .hbm, ⟨29, _⟩ => ⟨S1x1x8192x64, .f32⟩
  | .hbm, ⟨30, _⟩ => ⟨S4x8x8192x64, .f32⟩
  | .hbm, ⟨31, _⟩ => ⟨S4x8x8192x64, .f32⟩
  | .hbm, ⟨32, _⟩ => ⟨S4x8x8192x64, .f32⟩
  | .hbm, ⟨33, _⟩ => ⟨S1x1x8192x64, .f32⟩
  | .hbm, ⟨34, _⟩ => ⟨S4x8x8192x64, .f32⟩
  | .hbm, ⟨35, _⟩ => ⟨S4x8x8192x64, .f32⟩
  | .hbm, ⟨36, _⟩ => ⟨S1x1x8192x64, .f32⟩
  | .hbm, ⟨37, _⟩ => ⟨S4x8x8192x64, .f32⟩
  | .hbm, ⟨38, _⟩ => ⟨S4x8x8192x64, .f32⟩
  | .hbm, ⟨39, _⟩ => ⟨S4x8x8192x64, .f32⟩
  | .hbm, ⟨40, _⟩ => ⟨S4x8x8192x128, .f32⟩
  | .hbm, ⟨41, _⟩ => ⟨S32768x1024, .f32⟩
  | .hbm, ⟨42, _⟩ => ⟨S4x8192x8x128, .f32⟩
  | .hbm, ⟨43, _⟩ => ⟨S4x8x8192x128, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S8192x1, .f32⟩
  | .hbm, ⟨53, _⟩ => ⟨S1x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S4x8x8192x64, .f32⟩
  | .hbm, ⟨60, _⟩ => ⟨S4x8x8192x64, .f32⟩
  | .hbm, ⟨61, _⟩ => ⟨S1x1x8192x64, .f32⟩
  | .hbm, ⟨62, _⟩ => ⟨S4x8x8192x64, .f32⟩
  | .hbm, ⟨63, _⟩ => ⟨S4x8x8192x64, .f32⟩
  | .hbm, ⟨64, _⟩ => ⟨S1x1x8192x64, .f32⟩
  | .hbm, ⟨65, _⟩ => ⟨S4x8x8192x64, .f32⟩
  | .hbm, ⟨66, _⟩ => ⟨S4x8x8192x64, .f32⟩
  | .hbm, ⟨67, _⟩ => ⟨S4x8x8192x64, .f32⟩
  | .hbm, ⟨68, _⟩ => ⟨S1x1x8192x64, .f32⟩
  | .hbm, ⟨69, _⟩ => ⟨S4x8x8192x64, .f32⟩
  | .hbm, ⟨70, _⟩ => ⟨S4x8x8192x64, .f32⟩
  | .hbm, ⟨71, _⟩ => ⟨S1x1x8192x64, .f32⟩
  | .hbm, ⟨72, _⟩ => ⟨S4x8x8192x64, .f32⟩
  | .hbm, ⟨73, _⟩ => ⟨S4x8x8192x64, .f32⟩
  | .hbm, ⟨74, _⟩ => ⟨S4x8x8192x64, .f32⟩
  | .hbm, ⟨75, _⟩ => ⟨S4x8x8192x128, .f32⟩
  | .hbm, ⟨76, _⟩ => ⟨S_, .f32⟩
  | .hbm, ⟨77, _⟩ => ⟨S4x8x8192x128, .f32⟩
  | .hbm, ⟨78, _⟩ => ⟨S4x8x8192x128, .f32⟩
  | .hbm, ⟨79, _⟩ => ⟨S4x8192x8x128, .f32⟩
  | .hbm, ⟨80, _⟩ => ⟨S32768x1024, .f32⟩
  | .hbm, ⟨81, _⟩ => ⟨S4x8192x8x128, .f32⟩
  | .hbm, ⟨82, _⟩ => ⟨S32768x1024, .f32⟩
  | .hbm, ⟨83, _⟩ => ⟨S32768x2048, .f32⟩
  | .hbm, ⟨84, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_3 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩

abbrev nD : Nat := 1
abbrev τ : Topo := Topo.v7x

variable {F : FTy → Type} [FloatOps F]
-- ==== Kernel9.lean ====
abbrev S32768x2048 : Shape := ⟨2, ![32768, 2048]⟩
abbrev S32768x5632 : Shape := ⟨2, ![32768, 5632]⟩
abbrev S2x2x5632x2048 : Shape := ⟨4, ![2, 2, 5632, 2048]⟩
abbrev S2x3x2048 : Shape := ⟨3, ![2, 3, 2048]⟩
abbrev S_ : Shape := ⟨0, ![]⟩
abbrev S1x1x2048 : Shape := ⟨3, ![1, 1, 2048]⟩
abbrev S2048 : Shape := ⟨1, ![2048]⟩
abbrev S1x2048 : Shape := ⟨2, ![1, 2048]⟩
abbrev S256x2048 : Shape := ⟨2, ![256, 2048]⟩
abbrev S256x5632 : Shape := ⟨2, ![256, 5632]⟩
abbrev S1x1x5632x2048 : Shape := ⟨4, ![1, 1, 5632, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 16
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x5632, .bf16⟩
  | .hbm, ⟨2, _⟩ => ⟨S2x2x5632x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S2x2x5632x2048, .f32⟩
  | .hbm, ⟨7, _⟩ => ⟨S2x2x5632x2048, .f32⟩
  | .hbm, ⟨8, _⟩ => ⟨S2x2x5632x2048, .bf16⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x5632, .bf16⟩
  | .local _ .vmem, ⟨3, _⟩ => ⟨S256x5632, .bf16⟩
  | .local _ .vmem, ⟨4, _⟩ => ⟨S1x1x5632x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S32768x2048 : Shape := ⟨2, ![32768, 2048]⟩
abbrev S32768x5632 : Shape := ⟨2, ![32768, 5632]⟩
abbrev S2x2x5632x2048 : Shape := ⟨4, ![2, 2, 5632, 2048]⟩
abbrev S2x3x2048 : Shape := ⟨3, ![2, 3, 2048]⟩
abbrev S_ : Shape := ⟨0, ![]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x5632, .bf16⟩
  | .hbm, ⟨2, _⟩ => ⟨S2x2x5632x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x5632, .f32⟩
  | .hbm, ⟨9, _⟩ => ⟨S1x1x5632x2048, .f32⟩
  | .hbm, ⟨10, _⟩ => ⟨S5632x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x1x2048, .f32⟩
  | .hbm, ⟨17, _⟩ => ⟨S2048, .f32⟩
  | .hbm, ⟨18, _⟩ => ⟨S1x1x2048, .f32⟩
  | .hbm, ⟨19, _⟩ => ⟨S2048, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S1x2048, .f32⟩
  | .hbm, ⟨44, _⟩ => ⟨S32768x2048, .f32⟩
  | .hbm, ⟨45, _⟩ => ⟨S32768x2048, .f32⟩
  | .hbm, ⟨46, _⟩ => ⟨S1x2048, .f32⟩
  | .hbm, ⟨47, _⟩ => ⟨S32768x2048, .f32⟩
  | .hbm, ⟨48, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel10.lean ====
abbrev S32768x2048 : Shape := ⟨2, ![32768, 2048]⟩
abbrev S32768x4096 : Shape := ⟨2, ![32768, 4096]⟩
abbrev S32768x1024 : Shape := ⟨2, ![32768, 1024]⟩
abbrev S1x1024 : Shape := ⟨2, ![1, 1024]⟩
abbrev S1024 : Shape := ⟨1, ![1024]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x256x128 : Shape := ⟨3, ![8, 256, 128]⟩
abbrev S8x128x128 : Shape := ⟨3, ![8, 128, 128]⟩
abbrev S1024x128 : Shape := ⟨2, ![1024, 128]⟩
abbrev S1x256x128 : Shape := ⟨3, ![1, 256, 128]⟩
abbrev S1x128x128 : Shape := ⟨3, ![1, 128, 128]⟩
abbrev S1x128 : Shape := ⟨2, ![1, 128]⟩
abbrev S128x128 : Shape := ⟨2, ![128, 128]⟩
abbrev S256x128 : Shape := ⟨2, ![256, 128]⟩

abbrev nBuf : Space → Nat
  | .hbm => 71
  | .vmem => 23
  | .smem => 0
  | _ => 0

abbrev bufTy : (tb : Table) → Fin (tcTables nBuf tb) → BufTy
  | .hbm, ⟨0, _⟩ => ⟨S32768x2048, .bf16⟩
  | .hbm, ⟨1, _⟩ => ⟨S32768x4096, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S1024, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S256, .f32⟩
  | .hbm, ⟨18, _⟩ => ⟨S256x1, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .i1⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S1x256x256, .f32⟩
  | .hbm, ⟨30, _⟩ => ⟨S8x1x1, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S8x256x256, .f32⟩
  | .hbm, ⟨35, _⟩ => ⟨S_, .f32⟩
  | .hbm, ⟨36, _⟩ => ⟨S_, .f32⟩
  | .hbm, ⟨37, _⟩ => ⟨S8x256x256, .i1⟩
  | .hbm, ⟨38, _⟩ => ⟨S8x256x256, .f32⟩
  | .hbm, ⟨39, _⟩ => ⟨S8x256x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S8x1, .f32⟩
  | .hbm, ⟨45, _⟩ => ⟨S8x256, .f32⟩
  | .hbm, ⟨46, _⟩ => ⟨S8x256, .f32⟩
  | .hbm, ⟨47, _⟩ => ⟨S8x256, .f32⟩
  | .hbm, ⟨48, _⟩ => ⟨S8x256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S1x256, .f32⟩
  | .hbm, ⟨53, _⟩ => ⟨S8x1, .f32⟩
  | .hbm, ⟨54, _⟩ => ⟨S8x256, .f32⟩
  | .hbm, ⟨55, _⟩ => ⟨S8x256, .f32⟩
  | .hbm, ⟨56, _⟩ => ⟨S8x256, .f32⟩
  | .hbm, ⟨57, _⟩ => ⟨S8x256, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S8x256x1, .f32⟩
  | .hbm, ⟨63, _⟩ => ⟨S8x256x128, .f32⟩
  | .hbm, ⟨64, _⟩ => ⟨S8x256x1, .f32⟩
  | .hbm, ⟨65, _⟩ => ⟨S8x256x128, .f32⟩
  | .hbm, ⟨66, _⟩ => ⟨S8x1x1, .f32⟩
  | .hbm, ⟨67, _⟩ => ⟨S8x128x128, .f32⟩
  | .hbm, ⟨68, _⟩ => ⟨S1x1024, .f32⟩
  | .hbm, ⟨69, _⟩ => ⟨S1x1024, .f32⟩
  | .hbm, ⟨70, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1x256x256, .f32⟩
  | .local _ .vmem, ⟨9, _⟩ => ⟨S1x256x256, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x128x128, .f32⟩
  | .local _ .vmem, ⟨15, _⟩ => ⟨S1x128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1024x128, .bf16⟩
  | .local _ .vmem, ⟨21, _⟩ => ⟨S1024x128, .bf16⟩
  | .local _ .vmem, ⟨22, _⟩ => ⟨S128x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c8_i32_0 : BitVec 32 := 8#32
  let v2 : BitVec 32 := Scalar.addi c8_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference10Ideal.lean ====
abbrev S32768x2048 : Shape := ⟨2, ![32768, 2048]⟩
abbrev S32768x4096 : Shape := ⟨2, ![32768, 4096]⟩
abbrev S32768x1024 : Shape := ⟨2, ![32768, 1024]⟩
abbrev S1x1024 : Shape := ⟨2, ![1, 1024]⟩
abbrev S4x32x256x8x128 : Shape := ⟨5, ![4, 32, 256, 8, 128]⟩
abbrev S4x8x32x256x128 : Shape := ⟨5, ![4, 8, 32, 256, 128]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S4x8x32x256x256 : Shape := ⟨5, ![4, 8, 32, 256, 256]⟩
abbrev S1x8x1x256x256 : Shape := ⟨5, ![1, 8, 1, 256, 256]⟩
abbrev S8x1 : Shape := ⟨2, ![8, 1]⟩
abbrev S8x256 : Shape := ⟨2, ![8, 256]⟩
abbrev S1x8x1x256x1 : Shape := ⟨5, ![1, 8, 1, 256, 1]⟩
abbrev S4x8x32x128x128 : Shape := ⟨5, ![4, 8, 32, 128, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S8x32x32 : Shape := ⟨3, ![8, 32, 32]⟩
abbrev S8x32x4x128x128 : Shape := ⟨5, ![8, 32, 4, 128, 128]⟩
abbrev S4x8x32x256 : Shape := ⟨4, ![4, 8, 32, 256]⟩
abbrev S4x8x32x256x1 : Shape := ⟨5, ![4, 8, 32, 256, 1]⟩
abbrev S1024 : Shape := ⟨1, ![1024]⟩

abbrev nBuf : Space → Nat
  | .hbm => 157
  | .vmem => 0
  | .smem => 0
  | _ => 0

abbrev hbmTy0_0 (i : Nat) : BufTy := match i % 128 with
  | 0 => ⟨S32768x2048, .bf16⟩
  | 1 => ⟨S32768x4096, .bf16⟩
  | 2 => ⟨S32768x1024, .f32⟩
  | 3 => ⟨S1x1024, .f32⟩
  | 4 => ⟨S1x1024, .f32⟩
  | 5 => ⟨S32768x1024, .bf16⟩
  | 6 => ⟨S32768x1024, .f32⟩
  | 7 => ⟨S4x32x256x8x128, .f32⟩
  | 8 => ⟨S4x8x32x256x128, .f32⟩
  | 9 => ⟨S32768x1024, .bf16⟩
  | 10 => ⟨S32768x1024, .f32⟩
  | 11 => ⟨S4x32x256x8x128, .f32⟩
  | 12 => ⟨S4x8x32x256x128, .f32⟩
  | 13 => ⟨S32768x1024, .bf16⟩
  | 14 => ⟨S32768x1024, .f32⟩
  | 15 => ⟨S4x32x256x8x128, .f32⟩
  | 16 => ⟨S4x8x32x256x128, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S8, .f32⟩
  | 26 => ⟨S8, .f32⟩
  | 27 => ⟨S256, .f32⟩
  | 28 => ⟨S256x1, .f32⟩
  | 29 => ⟨S1x256, .f32⟩
  | 30 => ⟨S256x256, .f32⟩
  | 31 => ⟨S256x256, .f32⟩
  | 32 => ⟨S256x256, .f32⟩
  | 33 => ⟨S_, .f32⟩
  | 34 => ⟨S256x256, .f32⟩
  | 35 => ⟨S256x256, .i1⟩
  | 36 => ⟨S_, .f32⟩
  | 37 => ⟨S256x256, .f32⟩
  | 38 => ⟨S256x256, .f32⟩
  | 39 => ⟨S1x256x256, .f32⟩
  | 40 => ⟨S8x1x1, .f32⟩
  | 41 => ⟨S8x256x256, .f32⟩
  | 42 => ⟨S8x256x256, .f32⟩
  | 43 => ⟨S8x256x256, .f32⟩
  | 44 => ⟨S8x256x256, .f32⟩
  | 45 => ⟨S_, .f32⟩
  | 46 => ⟨S_, .f32⟩
  | 47 => ⟨S8x256x256, .i1⟩
  | 48 => ⟨S8x256x256, .f32⟩
  | 49 => ⟨S8x256x256, .f32⟩
  | 50 => ⟨S4x8x32x256x256, .f32⟩
  | 51 => ⟨S1x8x1x256x256, .f32⟩
  | 52 => ⟨S4x8x32x256x256, .f32⟩
  | 53 => ⟨S4x8x32x256x256, .f32⟩
  | 54 => ⟨S4x8x32x256x128, .f32⟩
  | 55 => ⟨S_, .f32⟩
  | 56 => ⟨S256, .f32⟩
  | 57 => ⟨S256, .f32⟩
  | 58 => ⟨S1x256, .f32⟩
  | 59 => ⟨S8x1, .f32⟩
  | 60 => ⟨S8x256, .f32⟩
  | 61 => ⟨S8x256, .f32⟩
  | 62 => ⟨S8x256, .f32⟩
  | 63 => ⟨S8x256, .f32⟩
  | 64 => ⟨S1x8x1x256x1, .f32⟩
  | 65 => ⟨S4x8x32x256x128, .f32⟩
  | 66 => ⟨S4x8x32x256x128, .f32⟩
  | 67 => ⟨S4x8x32x128x128, .f32⟩
  | 68 => ⟨S32, .f32⟩
  | 69 => ⟨S32x1, .f32⟩
  | 70 => ⟨S1x32, .f32⟩
  | 71 => ⟨S32x32, .f32⟩
  | 72 => ⟨S32x32, .f32⟩
  | 73 => ⟨S32x32, .f32⟩
  | 74 => ⟨S_, .f32⟩
  | 75 => ⟨S32x32, .f32⟩
  | 76 => ⟨S32x32, .f32⟩
  | 77 => ⟨S_, .f32⟩
  | 78 => ⟨S32x32, .f32⟩
  | 79 => ⟨S32x32, .i1⟩
  | 80 => ⟨S_, .f32⟩
  | 81 => ⟨S32x32, .f32⟩
  | 82 => ⟨S32x32, .f32⟩
  | 83 => ⟨S1x32x32, .f32⟩
  | 84 => ⟨S_, .f32⟩
  | 85 => ⟨S8, .f32⟩
  | 86 => ⟨S8, .f32⟩
  | 87 => ⟨S8x1x1, .f32⟩
  | 88 => ⟨S8x32x32, .f32⟩
  | 89 => ⟨S8x32x32, .f32⟩
  | 90 => ⟨S8x32x32, .f32⟩
  | 91 => ⟨S8x32x32, .f32⟩
  | 92 => ⟨S_, .f32⟩
  | 93 => ⟨S_, .f32⟩
  | 94 => ⟨S8x32x32, .i1⟩
  | 95 => ⟨S8x32x32, .f32⟩
  | 96 => ⟨S8x32x32, .f32⟩
  | 97 => ⟨S8x32x4x128x128, .f32⟩
  | 98 => ⟨S4x8x32x128x128, .f32⟩
  | 99 => ⟨S_, .f32⟩
  | 100 => ⟨S256, .f32⟩
  | 101 => ⟨S256, .f32⟩
  | 102 => ⟨S1x256, .f32⟩
  | 103 => ⟨S8x1, .f32⟩
  | 104 => ⟨S8x256, .f32⟩
  | 105 => ⟨S8x256, .f32⟩
  | 106 => ⟨S8x256, .f32⟩
  | 107 => ⟨S8x256, .f32⟩
  | 108 => ⟨S4x8x32x256x128, .f32⟩
  | 109 => ⟨S1x8x1x256x1, .f32⟩
  | 110 => ⟨S4x8x32x256x128, .f32⟩
  | 111 => ⟨S4x8x32x256x128, .f32⟩
  | 112 => ⟨S4x8x32x256x128, .f32⟩
  | 113 => ⟨S_, .f32⟩
  | 114 => ⟨S4x8x32x256, .f32⟩
  | 115 => ⟨S4x8x32x256x1, .f32⟩
  | 116 => ⟨S_, .f32⟩
  | 117 => ⟨S4x8x32x256x1, .f32⟩
  | 118 => ⟨S4x8x32x256x1, .f32⟩
  | 119 => ⟨S4x8x32x256x128, .f32⟩
  | 120 => ⟨S4x8x32x256x128, .f32⟩
  | 121 => ⟨S4x8x32x256x128, .f32⟩
  | 122 => ⟨S_, .f32⟩
  | 123 => ⟨S4x8x32x256, .f32⟩
  | 124 => ⟨S4x8x32x256x1, .f32⟩
  | 125 => ⟨S_, .f32⟩
  | 126 => ⟨S4x8x32x256x1, .f32⟩
  | 127 => ⟨S4x8x32x256x1, .f32⟩
  | _ => ⟨S32768x2048, .bf16⟩

abbrev hbmTy0_1 (i : Nat) : BufTy := match i % 128 with
  | 0 => ⟨S4x8x32x256x128, .f32⟩
  | 1 => ⟨S4x8x32x256x128, .f32⟩
  | 2 => ⟨S_, .f32⟩
  | 3 => ⟨S4x8x32x256x1, .f32⟩
  | 4 => ⟨S4x8x32x256x1, .f32⟩
  | 5 => ⟨S4x8x32x256x1, .f32⟩
  | 6 => ⟨S4x8x32x256x128, .f32⟩
  | 7 => ⟨S4x8x32x256x128, .f32⟩
  | 8 => ⟨S4x32x256x8x128, .f32⟩
  | 9 => ⟨S32768x1024, .f32⟩
  | 10 => ⟨S1024, .f32⟩
  | 11 => ⟨S1x1024, .f32⟩
  | 12 => ⟨S32768x1024, .f32⟩
  | 13 => ⟨S32768x1024, .f32⟩
  | 14 => ⟨S1024, .f32⟩
  | 15 => ⟨S1x1024, .f32⟩
  | 16 => ⟨S32768x1024, .f32⟩
  | 17 => ⟨S32768x1024, .f32⟩
  | 18 => ⟨S32768x1024, .f32⟩
  | 19 => ⟨S32768x1024, .f32⟩
  | 20 => ⟨S_, .f32⟩
  | 21 => ⟨S32768x1024, .f32⟩
  | 22 => ⟨S32768x1024, .f32⟩
  | 23 => ⟨S_, .f32⟩
  | 24 => ⟨S32768x1024, .f32⟩
  | 25 => ⟨S32768x1024, .f32⟩
  | 26 => ⟨S32768x1024, .f32⟩
  | 27 => ⟨S32768x1024, .f32⟩
  | 28 => ⟨S32768x1024, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_11 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_13 : Ref sig .tc := ⟨.hbm, 122, rfl⟩
abbrev main_v97 : Ref sig .tc := ⟨.hbm, 123, rfl⟩
abbrev main_v98 : Ref sig .tc := ⟨.hbm, 124, rfl⟩
abbrev main_cst_14 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_15 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call2_v0 : Ref sig .tc := ⟨.hbm, 146, rfl⟩
abbrev main_call2_v1 : Ref sig .tc := ⟨.hbm, 147, rfl⟩
abbrev main_call2_cst : Ref sig .tc := ⟨.hbm, 148, rfl⟩
abbrev main_call2_v2 : Ref sig .tc := ⟨.hbm, 149, rfl⟩
abbrev main_call2_v3 : Ref sig .tc := ⟨.hbm, 150, rfl⟩
abbrev main_call2_cst_0 : Ref sig .tc := ⟨.hbm, 151, rfl⟩
abbrev main_call2_v4 : Ref sig .tc := ⟨.hbm, 152, rfl⟩
abbrev main_call2_v5 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩

abbrev nD : Nat := 1
abbrev τ : Topo := Topo.v7x

variable {F : FTy → Type} [FloatOps F]
-- ==== Proof.Up.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Up
open Cert.KernelIdeal Cert.KernelIdeal.Gen

variable (m : (ℓ : Loc nD τ sig) → Buf (Elt Ideal) ℓ)

theorem idx : ∀ t : Fin cfg0.N, win0_0.index t = ![t.val % 32, 0] ∧ win0_1.index t = ![0, 0, 0, t.val / 32]
    ∧ win0_2.index t = ![0, 0, 0, t.val / 32] ∧ win0_3.index t = ![t.val % 32, t.val / 32] :=
  (by decide +kernel : ∀ t : Fin grid0.N, _)

/-- The host program's term over its arguments: the two projections, the first one gated. -/
def REF (X : FVec Ideal ReferenceIdeal.S32768x2048 .f32) (Wg Wu : FVec Ideal ReferenceIdeal.S2x2x2048x5632 .f32) :
    FVec Ideal ReferenceIdeal.S32768x5632 .bf16 :=
  let g : FVec Ideal ReferenceIdeal.S32768x5632 .f32 :=
    Host.dotGeneral ReferenceIdeal.dot_S32768x2048_S2048x5632_S32768x5632_1_0_0_1_n_n none X
      (shapeCast ReferenceIdeal.S2048x5632 (extractStridedSlice ReferenceIdeal.S1x1x2048x5632 ![0, 0, 0, 0] Wg Cert.ReferenceIdeal.Gen.slices_S2x2x2048x5632_S1x1x2048x5632_0_0_0_0) Cert.ReferenceIdeal.Gen.shapeCasts_S1x1x2048x5632_S2048x5632)
  let one : FVec Ideal ReferenceIdeal.S32768x5632 .f32 :=
    broadcastInDim ReferenceIdeal.S32768x5632 ![] Cert.ReferenceIdeal.Gen.bcast_S_S32768x5632 (constant ReferenceIdeal.S_ FTy.f32 1065353216#32)
  truncf FTy.bf16 (mulf (mulf g (Host.divf one (addf one (Host.exp (Host.negf g)))))
    (Host.dotGeneral ReferenceIdeal.dot_S32768x2048_S2048x5632_S32768x5632_1_0_0_1_n_n none X
      (shapeCast ReferenceIdeal.S2048x5632 (extractStridedSlice ReferenceIdeal.S1x1x2048x5632 ![0, 0, 0, 0] Wu Cert.ReferenceIdeal.Gen.slices_S2x2x2048x5632_S1x1x2048x5632_0_0_0_0) Cert.ReferenceIdeal.Gen.shapeCasts_S1x1x2048x5632_S2048x5632))) Cert.ReferenceIdeal.Gen.bitsLt_bf16_f32

/-- What a grid point stores at a place of its block is the host term at the place's array index. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, REF]
  simp only [Ideal.logistic]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

theorem algebraic : Cert.algebraic_KernelIdeal_ReferenceIdeal := by
  pair_intro
  · run_from Cert.KernelIdeal.Gen.run_main m g
  · hlo_run
    simp only [StableHlo.TRef.ofBuf_toBuf]
    refine Eq.trans ?_ (final m c).symm
    rfl

end Cert.KernelIdeal.Up

end
-- ==== Proof.Down.lean ====
module

public import proofs.«01_k».proof.Defs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Down
open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val, 0]
    ∧ win0_2.index t = ![0, 0, 0, 0] ∧ win0_3.index t = ![0, 0] ∧ win0_4.index t = ![0, 0]
    ∧ win0_5.index t = ![t.val, 0] ∧ win0_6.index t = ![t.val, 0] :=
  (by decide +kernel : ∀ t : Fin grid0.N, _)

/-- The residual stream before its normalisation, as the host program computes it. -/
def RES (H : FVec Ideal Reference2Ideal.S32768x2048 .f32) (A : FVec Ideal Reference2Ideal.S32768x5632 .bf16)
    (W : FVec Ideal Reference2Ideal.S2x2x5632x2048 .f32) : FVec Ideal Reference2Ideal.S32768x2048 .f32 :=
  addf (mulf (broadcastInDim Reference2Ideal.S32768x2048 ![] Cert.Reference2Ideal.Gen.bcast_S_S32768x2048
      (constant Reference2Ideal.S_ FTy.f32 1068827891#32)) H)
    (mulf (broadcastInDim Reference2Ideal.S32768x2048 ![] Cert.Reference2Ideal.Gen.bcast_S_S32768x2048
        (constant Reference2Ideal.S_ FTy.f32 1056964608#32))
      (Host.dotGeneral Reference2Ideal.dot_S32768x5632_S5632x2048_S32768x2048_1_0_0_1_n_n none
        (extf FTy.f32 A Cert.Reference2Ideal.Gen.bitsLt_bf16_f32)
        (shapeCast Reference2Ideal.S5632x2048 (extractStridedSlice Reference2Ideal.S1x1x5632x2048 ![0, 0, 0, 0] W
          Cert.Reference2Ideal.Gen.slices_S2x2x5632x2048_S1x1x5632x2048_0_0_0_0) Cert.Reference2Ideal.Gen.shapeCasts_S1x1x5632x2048_S5632x2048)))

/-- The mean of every row. -/
def MEAN (Y : FVec Ideal Reference2Ideal.S32768x2048 .f32) : FVec Ideal Reference2Ideal.S32768x1 .f32 :=
  Host.divf (broadcastInDim Reference2Ideal.S32768x1 ![0] Cert.Reference2Ideal.Gen.bcast_S32768_S32768x1_0
      (Host.reduceAdd Y (constant Reference2Ideal.S_ FTy.f32 0#32) Cert.Reference2Ideal.Gen.reducesTo_S32768x2048_S32768_d1 Cert.Reference2Ideal.Gen.h_S_))
    (broadcastInDim Reference2Ideal.S32768x1 ![] Cert.Reference2Ideal.Gen.bcast_S_S32768x1 (constant Reference2Ideal.S_ FTy.f32 1157627904#32))

/-- A row minus its mean. -/
def CEN (Y : FVec Ideal Reference2Ideal.S32768x2048 .f32) : FVec Ideal Reference2Ideal.S32768x2048 .f32 :=
  subf Y (broadcastInDim Reference2Ideal.S32768x2048 ![0, 1] Cert.Reference2Ideal.Gen.bcast_S32768x1_S32768x2048_0_1 (MEAN Y))

/-- Row 0 of a stack of vectors, spread over the rows. -/
def VEC (G : FVec Ideal Reference2Ideal.S2x3x2048 .f32) : FVec Ideal Reference2Ideal.S32768x2048 .f32 :=
  broadcastInDim Reference2Ideal.S32768x2048 ![0, 1] Cert.Reference2Ideal.Gen.bcast_S1x2048_S32768x2048_0_1
    (broadcastInDim Reference2Ideal.S1x2048 ![1] Cert.Reference2Ideal.Gen.bcast_S2048_S1x2048_1
      (shapeCast Reference2Ideal.S2048 (extractStridedSlice Reference2Ideal.S1x1x2048 ![0, 0, 0] G
        Cert.Reference2Ideal.Gen.slices_S2x3x2048_S1x1x2048_0_0_0) Cert.Reference2Ideal.Gen.shapeCasts_S1x1x2048_S2048))

/-- The layer norm of every row. -/
def LN (Y : FVec Ideal Reference2Ideal.S32768x2048 .f32) (G B : FVec Ideal Reference2Ideal.S2x3x2048 .f32) :
    FVec Ideal Reference2Ideal.S32768x2048 .f32 :=
  addf (mulf (mulf (CEN Y) (broadcastInDim Reference2Ideal.S32768x2048 ![0, 1] Cert.Reference2Ideal.Gen.bcast_S32768x1_S32768x2048_0_1
    (Host.rsqrt (addf (MEAN (mulf (CEN Y) (CEN Y))) (broadcastInDim Reference2Ideal.S32768x1 ![] Cert.Reference2Ideal.Gen.bcast_S_S32768x1
      (constant Reference2Ideal.S_ FTy.f32 925353388#32)))))) (VEC G)) (VEC B)

/-- The word of one half. -/
theorem half_eq : Ideal.ofBits .f32 1056964608#32 = ((1 / 2 : ℝ) : EReal) := by
  simp [Ideal.ofBits, Ideal.ieee]
  rw [← EReal.coe_mul]
  norm_num

/-- A half of a contraction is the contraction with the half inside: a half is a finite number that is not negative. -/
theorem half_sum {n : ℕ} (f g : Fin n → EReal) :
    Ideal.ofBits .f32 1056964608#32 * ∑ k, f k * g k = ∑ k, f k * (Ideal.ofBits .f32 1056964608#32 * g k) := by
  have h0 : (0 : EReal) ≤ Ideal.ofBits .f32 1056964608#32 := by
    rw [half_eq]; exact_mod_cast (by norm_num : (0 : ℝ) ≤ 1 / 2)
  have ht : Ideal.ofBits .f32 1056964608#32 ≠ ⊤ := by rw [half_eq]; exact EReal.coe_ne_top _
  have key : ∀ s : Finset (Fin n), Ideal.ofBits .f32 1056964608#32 * ∑ k ∈ s, f k * g k
      = ∑ k ∈ s, f k * (Ideal.ofBits .f32 1056964608#32 * g k) := by
    intro s
    induction s using Finset.induction_on with
    | empty => simp
    | insert a s ha ih =>
      rw [Finset.sum_insert ha, Finset.sum_insert ha, EReal.left_distrib_of_nonneg_of_ne_top h0 ht, ih, mul_left_comm]
  exact key Finset.univ

/-- The launch's weight, halved by the host, at an index. -/
theorem wd_at (c : Dev nD) (i : S2x2x5632x2048.Idx) :
    V m c main_v2 i = (Ideal.ofBits .f32 1056964608#32 * (m ((c : Thread nD τ).loc main_arg2) i : EReal) : EReal) := by
  entry_read
  pointwise

theorem point (c : Dev nD) (t : Fin cfg0.N) (y) :
    k0_pay1 (iblk m c 1 t) (iblk m c 2 t) (iblk m c 0 t) (iblk m c 3 t) (iblk m c 4 t) y
      = LN (RES (m ((c : Thread nD τ).loc main_arg0)) (m ((c : Thread nD τ).loc main_arg1))
          (m ((c : Thread nD τ).loc main_arg2))) (m ((c : Thread nD τ).loc main_arg3))
          (m ((c : Thread nD τ).loc main_arg4)) (((cfg0.win 5).blk t).view.emb y) := by
  pointwise [k0_pay1, LN, VEC, CEN, MEAN, RES]
  simp only [half_sum]
  blk_point [iblk, V, idx t]
  all_goals
    refine Ideal.mul_congr rfl ((wd_at m c _).trans (Ideal.mul_congr rfl ?_))
    blk_ext [idx t]

theorem final5 (c : Dev nD) : (dats m 0 c).arrAt 5 (cfgs 0).N
    = LN (RES (m ((c : Thread nD τ).loc main_arg0)) (m ((c : Thread nD τ).loc main_arg1))
        (m ((c : Thread nD τ).loc main_arg2))) (m ((c : Thread nD τ).loc main_arg3))
        (m ((c : Thread nD τ).loc main_arg4)) := by
  refine (dats m 0 c).arrAt_eq_of_covers 5 _ (by decide +kernel) fun t _ y => ?_
  blk_simp
  rw [after0_5]; frame_out
  exact point m c t y

theorem final6 (c : Dev nD) : (dats m 0 c).arrAt 6 (cfgs 0).N
    = truncf FTy.bf16 (LN (RES (m ((c : Thread nD τ).loc main_arg0)) (m ((c : Thread nD τ).loc main_arg1))
        (m ((c : Thread nD τ).loc main_arg2))) (m ((c : Thread nD τ).loc main_arg3))
        (m ((c : Thread nD τ).loc main_arg4))) Cert.Reference2Ideal.Gen.bitsLt_bf16_f32 := by
  refine (dats m 0 c).arrAt_eq_of_covers 6 _ (by decide +kernel) fun t _ y => ?_
  blk_simp
  rw [after0_6]; frame_out
  pointwise [k0_pay2]
  exact point m c t y

theorem algebraic : Cert.algebraic_Kernel2Ideal_Reference2Ideal := by
  pair_intro
  · run_from Cert.Kernel2Ideal.Gen.run_main m g
  · hlo_run
    · exact (final5 m c).symm
    · exact (final6 m c).symm

end Cert.Kernel2Ideal.Down

end
-- ==== Proof.RnnOut.lean ====
module

public import proofs.«01_k».proof.Defs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.RnnOut
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![t.val, 0] :=
  (by decide +kernel : ∀ t : Fin grid0.N, _)

/-- The residual stream before its normalisation, as the host program computes it. -/
def RES (H : FVec Ideal Reference3Ideal.S32768x2048 .f32) (A : FVec Ideal Reference3Ideal.S32768x2816 .bf16)
    (W : FVec Ideal Reference3Ideal.S1x2816x2048 .f32) : FVec Ideal Reference3Ideal.S32768x2048 .f32 :=
  addf (mulf (broadcastInDim Reference3Ideal.S32768x2048 ![] Cert.Reference3Ideal.Gen.bcast_S_S32768x2048
      (constant Reference3Ideal.S_ FTy.f32 1068827891#32)) H)
    (Host.dotGeneral Reference3Ideal.dot_S32768x2816_S2816x2048_S32768x2048_1_0_0_1_n_n none
      (extf FTy.f32 A Cert.Reference3Ideal.Gen.bitsLt_bf16_f32)
      (shapeCast Reference3Ideal.S2816x2048 W Cert.Reference3Ideal.Gen.shapeCasts_S1x2816x2048_S2816x2048))

/-- The mean of every row. -/
def MEAN (Y : FVec Ideal Reference3Ideal.S32768x2048 .f32) : FVec Ideal Reference3Ideal.S32768x1 .f32 :=
  Host.divf (broadcastInDim Reference3Ideal.S32768x1 ![0] Cert.Reference3Ideal.Gen.bcast_S32768_S32768x1_0
      (Host.reduceAdd Y (constant Reference3Ideal.S_ FTy.f32 0#32) Cert.Reference3Ideal.Gen.reducesTo_S32768x2048_S32768_d1 Cert.Reference3Ideal.Gen.h_S_))
    (broadcastInDim Reference3Ideal.S32768x1 ![] Cert.Reference3Ideal.Gen.bcast_S_S32768x1 (constant Reference3Ideal.S_ FTy.f32 1157627904#32))

/-- A row minus its mean. -/
def CEN (Y : FVec Ideal Reference3Ideal.S32768x2048 .f32) : FVec Ideal Reference3Ideal.S32768x2048 .f32 :=
  subf Y (broadcastInDim Reference3Ideal.S32768x2048 ![0, 1] Cert.Reference3Ideal.Gen.bcast_S32768x1_S32768x2048_0_1 (MEAN Y))

/-- One row of a stack of vectors, spread over the rows. -/
def VEC (G : FVec Ideal Reference3Ideal.S2x3x2048 .f32) : FVec Ideal Reference3Ideal.S32768x2048 .f32 :=
  broadcastInDim Reference3Ideal.S32768x2048 ![0, 1] Cert.Reference3Ideal.Gen.bcast_S1x2048_S32768x2048_0_1
    (broadcastInDim Reference3Ideal.S1x2048 ![1] Cert.Reference3Ideal.Gen.bcast_S2048_S1x2048_1
      (shapeCast Reference3Ideal.S2048 (extractStridedSlice Reference3Ideal.S1x1x2048 ![1, 1, 0] G
        Cert.Reference3Ideal.Gen.slices_S2x3x2048_S1x1x2048_1_1_0) Cert.Reference3Ideal.Gen.shapeCasts_S1x1x2048_S2048))

/-- The layer norm of every row. -/
def LN (Y : FVec Ideal Reference3Ideal.S32768x2048 .f32) (G B : FVec Ideal Reference3Ideal.S2x3x2048 .f32) :
    FVec Ideal Reference3Ideal.S32768x2048 .f32 :=
  addf (mulf (mulf (CEN Y) (broadcastInDim Reference3Ideal.S32768x2048 ![0, 1] Cert.Reference3Ideal.Gen.bcast_S32768x1_S32768x2048_0_1
    (Host.rsqrt (addf (MEAN (mulf (CEN Y) (CEN Y))) (broadcastInDim Reference3Ideal.S32768x1 ![] Cert.Reference3Ideal.Gen.bcast_S_S32768x1
      (constant Reference3Ideal.S_ FTy.f32 925353388#32)))))) (VEC G)) (VEC B)

/-- A row of the result is the layer norm of the residual at that row. -/
theorem core1 (c : Dev nD) (t : Fin cfg0.N) (x : S256x2048.Idx) (j : S32768x2048.Idx)
    (h0 : (j 0 : ℕ) = t.val * 512 + (256 + x 0)) (h1 : (j 1 : ℕ) = x 1) :
    k0_pay1 (F := Ideal) (View.ld (iblk m c 1 t) r0_4) (View.ld (iblk m c 2 t) r0_1) (View.ld (iblk m c 0 t) r0_5)
        (View.ld (iblk m c 3 t) r0_3) (View.ld (iblk m c 4 t) r0_3) x
      = LN (RES (m ((c : Thread nD τ).loc main_arg0)) (m ((c : Thread nD τ).loc main_arg1))
          (m ((c : Thread nD τ).loc main_arg2))) (m ((c : Thread nD τ).loc main_arg3))
          (m ((c : Thread nD τ).loc main_arg4)) j := by
  pointwise [k0_pay1, LN, VEC, CEN, MEAN, RES]
  blk_point [iblk, V, idx t]

theorem core2 (c : Dev nD) (t : Fin cfg0.N) (x : S256x2048.Idx) (j : S32768x2048.Idx)
    (h0 : (j 0 : ℕ) = t.val * 512 + x 0) (h1 : (j 1 : ℕ) = x 1) :
    k0_pay2 (F := Ideal) (View.ld (iblk m c 1 t) r0_0) (View.ld (iblk m c 2 t) r0_1) (View.ld (iblk m c 0 t) r0_2)
        (View.ld (iblk m c 3 t) r0_3) (View.ld (iblk m c 4 t) r0_3) x
      = LN (RES (m ((c : Thread nD τ).loc main_arg0)) (m ((c : Thread nD τ).loc main_arg1))
          (m ((c : Thread nD τ).loc main_arg2))) (m ((c : Thread nD τ).loc main_arg3))
          (m ((c : Thread nD τ).loc main_arg4)) j := by
  pointwise [k0_pay2, LN, VEC, CEN, MEAN, RES]
  blk_point [iblk, V, idx t]

theorem point (c : Dev nD) (t : Fin cfg0.N) (y) :
    out0_5 (iblk m c 0 t) (iblk m c 1 t) (iblk m c 2 t) (iblk m c 3 t) (iblk m c 4 t) y
      = LN (RES (m ((c : Thread nD τ).loc main_arg0)) (m ((c : Thread nD τ).loc main_arg1))
          (m ((c : Thread nD τ).loc main_arg2))) (m ((c : Thread nD τ).loc main_arg3))
          (m ((c : Thread nD τ).loc main_arg4)) (((cfg0.win 5).blk t).view.emb y) := by
  canon_tiles x h
  · refine core1 m c t x _ ?_ ?_ <;> blk_simp [idx t] <;> try omega
  · refine core2 m c t x _ ?_ ?_ <;> blk_simp [idx t] <;> try omega

theorem final (c : Dev nD) : (dats m 0 c).arrAt 5 (cfgs 0).N
    = LN (RES (m ((c : Thread nD τ).loc main_arg0)) (m ((c : Thread nD τ).loc main_arg1))
        (m ((c : Thread nD τ).loc main_arg2))) (m ((c : Thread nD τ).loc main_arg3))
        (m ((c : Thread nD τ).loc main_arg4)) := by
  refine (dats m 0 c).arrAt_eq_of_covers 5 _ (by decide +kernel) fun t _ y => ?_
  blk_simp
  rw [after0_5]
  exact point m c t y

theorem algebraic : Cert.algebraic_Kernel3Ideal_Reference3Ideal := by
  pair_intro
  · run_from Cert.Kernel3Ideal.Gen.run_main m g
  · hlo_run
    exact (final m c).symm

end Cert.Kernel3Ideal.RnnOut

end
-- ==== Proof.AttnOut.lean ====
module

public import proofs.«01_k».proof.Defs
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.AttnOut
open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The residual stream before its normalisation, as the host program computes it. -/
def RES (H : FVec Ideal Reference4Ideal.S32768x2048 .f32) (A B : FVec Ideal Reference4Ideal.S32768x1024 .bf16)
    (W : FVec Ideal Reference4Ideal.S1x2048x2048 .f32) : FVec Ideal Reference4Ideal.S32768x2048 .f32 :=
  addf (mulf (broadcastInDim Reference4Ideal.S32768x2048 ![] Cert.Reference4Ideal.Gen.bcast_S_S32768x2048
      (constant Reference4Ideal.S_ FTy.f32 1068827891#32)) H)
    (Host.dotGeneral Reference4Ideal.dot_S32768x2048_S2048x2048_S32768x2048_1_0_0_1_n_n none
      (extf FTy.f32 (concatenate Reference4Ideal.S32768x2048 1
        [⟨Reference4Ideal.S32768x1024, A⟩, ⟨Reference4Ideal.S32768x1024, B⟩]
        Cert.Reference4Ideal.Gen.concatenates_S32768x1024_S32768x1024_S32768x2048_d1) Cert.Reference4Ideal.Gen.bitsLt_bf16_f32)
      (shapeCast Reference4Ideal.S2048x2048 W Cert.Reference4Ideal.Gen.shapeCasts_S1x2048x2048_S2048x2048))

/-- The mean of every row. -/
def MEAN (Y : FVec Ideal Reference4Ideal.S32768x2048 .f32) : FVec Ideal Reference4Ideal.S32768x1 .f32 :=
  Host.divf (broadcastInDim Reference4Ideal.S32768x1 ![0] Cert.Reference4Ideal.Gen.bcast_S32768_S32768x1_0
      (Host.reduceAdd Y (constant Reference4Ideal.S_ FTy.f32 0#32) Cert.Reference4Ideal.Gen.reducesTo_S32768x2048_S32768_d1 Cert.Reference4Ideal.Gen.h_S_))
    (broadcastInDim Reference4Ideal.S32768x1 ![] Cert.Reference4Ideal.Gen.bcast_S_S32768x1 (constant Reference4Ideal.S_ FTy.f32 1157627904#32))

/-- A row minus its mean. -/
def CEN (Y : FVec Ideal Reference4Ideal.S32768x2048 .f32) : FVec Ideal Reference4Ideal.S32768x2048 .f32 :=
  subf Y (broadcastInDim Reference4Ideal.S32768x2048 ![0, 1] Cert.Reference4Ideal.Gen.bcast_S32768x1_S32768x2048_0_1 (MEAN Y))

/-- One row of a stack of vectors, spread over the rows. -/
def VEC (G : FVec Ideal Reference4Ideal.S2x3x2048 .f32) : FVec Ideal Reference4Ideal.S32768x2048 .f32 :=
  broadcastInDim Reference4Ideal.S32768x2048 ![0, 1] Cert.Reference4Ideal.Gen.bcast_S1x2048_S32768x2048_0_1
    (broadcastInDim Reference4Ideal.S1x2048 ![1] Cert.Reference4Ideal.Gen.bcast_S2048_S1x2048_1
      (shapeCast Reference4Ideal.S2048 (extractStridedSlice Reference4Ideal.S1x1x2048 ![0, 1, 0] G
        Cert.Reference4Ideal.Gen.slices_S2x3x2048_S1x1x2048_0_1_0) Cert.Reference4Ideal.Gen.shapeCasts_S1x1x2048_S2048))

/-- The layer norm of every row. -/
def LN (Y : FVec Ideal Reference4Ideal.S32768x2048 .f32) (G B : FVec Ideal Reference4Ideal.S2x3x2048 .f32) :
    FVec Ideal Reference4Ideal.S32768x2048 .f32 :=
  addf (mulf (mulf (CEN Y) (broadcastInDim Reference4Ideal.S32768x2048 ![0, 1] Cert.Reference4Ideal.Gen.bcast_S32768x1_S32768x2048_0_1
    (Host.rsqrt (addf (MEAN (mulf (CEN Y) (CEN Y))) (broadcastInDim Reference4Ideal.S32768x1 ![] Cert.Reference4Ideal.Gen.bcast_S_S32768x1
      (constant Reference4Ideal.S_ FTy.f32 925353388#32)))))) (VEC G)) (VEC B)

/-- A row of the result is the layer norm of the residual at that row. -/
theorem core1 (c : Dev nD) (t : Fin cfg0.N) (x : S256x2048.Idx) (j : S32768x2048.Idx)
    (h0 : (j 0 : ℕ) = t.val * 512 + (256 + x 0)) (h1 : (j 1 : ℕ) = x 1) :
    k0_pay1 (F := Ideal) (k0_pay3 (View.ld (iblk m c 6 t) r0_3)) (k0_pay4 (View.ld (iblk m c 1 t) r0_4) (View.ld (iblk m c 3 t) r0_1)
        (View.ld (iblk m c 2 t) r0_4) (View.ld (iblk m c 4 t) r0_1) (View.ld (iblk m c 0 t) r0_5)) (k0_pay5 (View.ld (iblk m c 5 t) r0_3)) x
      = LN (RES (m ((c : Thread nD τ).loc main_arg0)) (m ((c : Thread nD τ).loc main_arg1))
          (m ((c : Thread nD τ).loc main_arg2)) (m ((c : Thread nD τ).loc main_arg3))) (m ((c : Thread nD τ).loc main_arg4))
          (m ((c : Thread nD τ).loc main_arg5)) j := by
  pointwise [k0_pay1, k0_pay3, k0_pay4, k0_pay5, LN, VEC, CEN, MEAN, RES]
  blk_point [iblk, V, idx t]

theorem core2 (c : Dev nD) (t : Fin cfg0.N) (x : S256x2048.Idx) (j : S32768x2048.Idx)
    (h0 : (j 0 : ℕ) = t.val * 512 + x 0) (h1 : (j 1 : ℕ) = x 1) :
    k0_pay2 (F := Ideal) (View.ld (iblk m c 1 t) r0_0) (View.ld (iblk m c 3 t) r0_1) (View.ld (iblk m c 2 t) r0_0)
        (View.ld (iblk m c 4 t) r0_1) (View.ld (iblk m c 0 t) r0_2) (View.ld (iblk m c 5 t) r0_3) (View.ld (iblk m c 6 t) r0_3) x
      = LN (RES (m ((c : Thread nD τ).loc main_arg0)) (m ((c : Thread nD τ).loc main_arg1))
          (m ((c : Thread nD τ).loc main_arg2)) (m ((c : Thread nD τ).loc main_arg3))) (m ((c : Thread nD τ).loc main_arg4))
          (m ((c : Thread nD τ).loc main_arg5)) j := by
  pointwise [k0_pay2, LN, VEC, CEN, MEAN, RES]
  blk_point [iblk, V, idx t]

theorem point (c : Dev nD) (t : Fin cfg0.N) (y) :
    out0_7 (iblk m c 0 t) (iblk m c 1 t) (iblk m c 2 t) (iblk m c 3 t) (iblk m c 4 t) (iblk m c 5 t) (iblk m c 6 t) y
      = LN (RES (m ((c : Thread nD τ).loc main_arg0)) (m ((c : Thread nD τ).loc main_arg1))
          (m ((c : Thread nD τ).loc main_arg2)) (m ((c : Thread nD τ).loc main_arg3))) (m ((c : Thread nD τ).loc main_arg4))
          (m ((c : Thread nD τ).loc main_arg5)) (((cfg0.win 7).blk t).view.emb y) := by
  canon_tiles x h
  · refine core1 m c t x _ ?_ ?_ <;> blk_simp [idx t] <;> try omega
  · refine core2 m c t x _ ?_ ?_ <;> blk_simp [idx t] <;> try omega

theorem final (c : Dev nD) : (dats m 0 c).arrAt 7 (cfgs 0).N
    = LN (RES (m ((c : Thread nD τ).loc main_arg0)) (m ((c : Thread nD τ).loc main_arg1))
        (m ((c : Thread nD τ).loc main_arg2)) (m ((c : Thread nD τ).loc main_arg3))) (m ((c : Thread nD τ).loc main_arg4))
        (m ((c : Thread nD τ).loc main_arg5)) := by
  refine (dats m 0 c).arrAt_eq_of_covers 7 _ (by decide +kernel) fun t _ y => ?_
  blk_simp
  rw [after0_7]
  exact point m c t y

theorem algebraic : Cert.algebraic_Kernel4Ideal_Reference4Ideal := by
  pair_intro
  · run_from Cert.Kernel4Ideal.Gen.run_main m g
  · hlo_run
    refine Eq.trans ?_ (final m c).symm
    obtain ⟨-, h1, h2, -⟩ := hagree c
    rw [← h1, ← h2]
    rfl

end Cert.Kernel4Ideal.AttnOut

end
-- ==== Proof.RnnIn.lean ====
module

public import proofs.«01_k».proof.Defs
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.RnnIn
open Cert.Kernel5Ideal Cert.Kernel5Ideal.Gen

variable (m : (ℓ : Loc nD τ sig) → Buf (Elt Ideal) ℓ)

theorem idx : ∀ t : Fin cfg0.N, win0_0.index t = ![t.val % 64, 0] ∧ win0_1.index t = ![0, t.val / 64]
    ∧ win0_2.index t = ![t.val % 64, t.val / 64] :=
  (by decide +kernel : ∀ t : Fin grid0.N, _)

/-- The product of the rows and the weights, as the host program computes it. -/
def REF (X : FVec Ideal Reference5Ideal.S32768x2048 .bf16) (W : FVec Ideal Reference5Ideal.S1x2048x5632 .f32) :
    FVec Ideal Reference5Ideal.S32768x5632 .f32 :=
  Host.dotGeneral Reference5Ideal.dot_S32768x2048_S2048x5632_S32768x5632_1_0_0_1_n_n none
    (extf FTy.f32 X Cert.Reference5Ideal.Gen.bitsLt_bf16_f32) (shapeCast Reference5Ideal.S2048x5632 W Cert.Reference5Ideal.Gen.shapeCasts_S1x2048x5632_S2048x5632)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem algebraic : Cert.algebraic_Kernel5Ideal_Reference5Ideal := by
  pair_intro
  · run_from Cert.Kernel5Ideal.Gen.run_main m g
  · hlo_run
    exact (final m c).symm

end Cert.Kernel5Ideal.RnnIn

end
-- ==== Proof.AttnGate.lean ====
module

public import proofs.«01_k».proof.Defs
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.AttnGate
open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] :=
  (by decide +kernel : ∀ t : Fin grid0.N, _)

/-- The product of the rows and all the input weights, as the host program computes it. -/
def PROJ (X : FVec Ideal Reference6Ideal.S32768x2048 .bf16) (W : FVec Ideal Reference6Ideal.S1x2048x7168 .f32) :
    FVec Ideal Reference6Ideal.S32768x7168 .f32 :=
  Host.dotGeneral Reference6Ideal.dot_S32768x2048_S2048x7168_S32768x7168_1_0_0_1_n_n none
    (extf FTy.f32 X Cert.Reference6Ideal.Gen.bitsLt_bf16_f32) (shapeCast Reference6Ideal.S2048x7168 W Cert.Reference6Ideal.Gen.shapeCasts_S1x2048x7168_S2048x7168)

/-- The gate's columns of the product. -/
def REF (X : FVec Ideal Reference6Ideal.S32768x2048 .bf16) (W : FVec Ideal Reference6Ideal.S1x2048x7168 .f32) :
    FVec Ideal Reference6Ideal.S32768x1024 .f32 :=
  extractStridedSlice Reference6Ideal.S32768x1024 ![0, 3072] (PROJ X W) Cert.Reference6Ideal.Gen.slices_S32768x7168_S32768x1024_0_3072

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, PROJ]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem algebraic : Cert.algebraic_Kernel6Ideal_Reference6Ideal := by
  pair_intro
  · run_from Cert.Kernel6Ideal.Gen.run_main m g
  · hlo_run
    exact (final m c).symm

end Cert.Kernel6Ideal.AttnGate

end
-- ==== Proof.AttnRest.lean ====
module

public import proofs.«01_k».proof.Defs
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.AttnRest
open Cert.Kernel7Ideal Cert.Kernel7Ideal.Gen

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem col : ∀ t : Fin cfg0.N, (grid0.coords t 1).val = t.val % 4 :=
  (by decide +kernel : ∀ t : Fin grid0.N, _)

/-- The product of the rows and all the input weights, as the host program computes it. -/
def PROJ (X : FVec Ideal Reference7Ideal.S32768x2048 .bf16) (W : FVec Ideal Reference7Ideal.S1x2048x7168 .f32) :
    FVec Ideal Reference7Ideal.S32768x7168 .f32 :=
  Host.dotGeneral Reference7Ideal.dot_S32768x2048_S2048x7168_S32768x7168_1_0_0_1_n_n none
    (extf FTy.f32 X Cert.Reference7Ideal.Gen.bitsLt_bf16_f32) (shapeCast Reference7Ideal.S2048x7168 W Cert.Reference7Ideal.Gen.shapeCasts_S1x2048x7168_S2048x7168)

/-- The values' columns, then the scaled queries', then the keys' and the values' of the second heads. -/
def REF (X : FVec Ideal Reference7Ideal.S32768x2048 .bf16) (W : FVec Ideal Reference7Ideal.S1x2048x7168 .f32) :
    FVec Ideal Reference7Ideal.S32768x4096 .bf16 :=
  truncf FTy.bf16 (concatenate Reference7Ideal.S32768x4096 1
    [⟨Reference7Ideal.S32768x1024, extractStridedSlice Reference7Ideal.S32768x1024 ![0, 2048] (PROJ X W)
        Cert.Reference7Ideal.Gen.slices_S32768x7168_S32768x1024_0_2048⟩,
     ⟨Reference7Ideal.S32768x3072, concatenate Reference7Ideal.S32768x3072 1
      [⟨Reference7Ideal.S32768x1024, mulf (extractStridedSlice Reference7Ideal.S32768x1024 ![0, 4096] (PROJ X W)
          Cert.Reference7Ideal.Gen.slices_S32768x7168_S32768x1024_0_4096)
        (broadcastInDim Reference7Ideal.S32768x1024 ![] Cert.Reference7Ideal.Gen.bcast_S_S32768x1024
          (constant Reference7Ideal.S_ FTy.f32 0x3DB504F3#32))⟩,
       ⟨Reference7Ideal.S32768x2048, extractStridedSlice Reference7Ideal.S32768x2048 ![0, 5120] (PROJ X W)
          Cert.Reference7Ideal.Gen.slices_S32768x7168_S32768x2048_0_5120⟩]
      Cert.Reference7Ideal.Gen.concatenates_S32768x1024_S32768x2048_S32768x3072_d1⟩]
    Cert.Reference7Ideal.Gen.concatenates_S32768x1024_S32768x3072_S32768x4096_d1) Cert.Reference7Ideal.Gen.bitsLt_bf16_f32

/-- The launch's weights, at an index: the values' columns, then the last three groups of columns. -/
theorem w_at (c : Dev nD) (i : S2048x4096.Idx) (l : S1x2048x7168.Idx) (h0 : (l 1 : ℕ) = i 0)
    (h1 : (i 1 : ℕ) < 1024 ∧ (l 2 : ℕ) = 2048 + (i 1 : ℕ) ∨ 1024 ≤ (i 1 : ℕ) ∧ (l 2 : ℕ) = 3072 + (i 1 : ℕ)) :
    V m c main_v4 i = (m ((c : Thread nD τ).loc main_arg1) l : EReal) := by
  entry_read
  pointwise
  rcases h1 with ⟨h, h1⟩ | ⟨h, h1⟩
  · rw [dif_pos h]; blk_ext
  · rw [dif_neg (by omega)]; blk_ext

/-- The factor of a block of columns. -/
theorem factor (n : ℕ) (h : n < 4) : Scalar.select
      (Scalar.andi (Scalar.cmpi CmpIPredicate.sge (BitVec.ofNat 32 n) 1#32)
        (Scalar.cmpi CmpIPredicate.slt (BitVec.ofNat 32 n) 2#32))
      (Ideal.ofBits FTy.f32 1035273459#32) 1 = if n = 1 then Ideal.ofBits FTy.f32 1035273459#32 else 1 := by
  have : n = 0 ∨ n = 1 ∨ n = 2 ∨ n = 3 := by omega
  rcases this with rfl | rfl | rfl | rfl <;> rfl

theorem core (c : Dev nD) (t : Fin cfg0.N) (y : S1024x1024.Idx) (j : S32768x4096.Idx)
    (h0 : (j 0 : ℕ) = t.val / 4 * 1024 + y 0) (h1 : (j 1 : ℕ) = t.val % 4 * 1024 + y 1) :
    k0_pay1 (F := Ideal) (grid0.coords t) (iblk m c 0 t) (iblk m c 1 t) y
      = REF (m ((c : Thread nD τ).loc main_arg0)) (m ((c : Thread nD τ).loc main_arg1)) j := by
  have y1 : (y 1 : ℕ) < 1024 := (y 1).isLt
  pointwise [k0_pay1, REF, PROJ]
  rw [factor _ (by rw [col t]; omega), col t]
  have e0 : ∀ k : Fin 2048, ((((cfg0.win 1).blk t).view.emb (ix2 k (y 1)) : S2048x4096.Idx) 0 : ℕ) = k := fun k => by
    blk_simp [idx t]
  have e1 : ∀ k : Fin 2048, ((((cfg0.win 1).blk t).view.emb (ix2 k (y 1)) : S2048x4096.Idx) 1 : ℕ)
      = t.val % 4 * 1024 + y 1 := fun k => by
    blk_simp [idx t]
  have key : ∀ l : Fin 7168, (t.val % 4 = 0 ∧ (l : ℕ) = 2048 + (j 1 : ℕ) ∨ 1 ≤ t.val % 4 ∧ (l : ℕ) = 3072 + (j 1 : ℕ)) →
      ∑ k : Fin 2048, @HMul.hMul EReal EReal EReal _ (iblk m c 0 t (ix2 (y 0) k)) (iblk m c 1 t (ix2 k (y 1)))
        = ∑ k : Fin 2048, @HMul.hMul EReal EReal EReal _ (m ((c : Thread nD τ).loc main_arg0) (ix2 (j 0) k))
            (m ((c : Thread nD τ).loc main_arg1) (ix3 0 k l)) := by
    intro l hl
    refine Fin.sum_fin_congr fun k => Ideal.mul_congr ?_ (w_at m c _ _ (e0 k).symm ?_)
    · blk_point [iblk, V, idx t]
    · rw [e1 k]
      show _ ∧ (l : ℕ) = _ ∨ _ ∧ (l : ℕ) = _
      omega
  have hq : t.val % 4 = 0 ∨ t.val % 4 = 1 ∨ t.val % 4 = 2 ∨ t.val % 4 = 3 := by omega
  rcases hq with h | h | h | h
  · rw [dif_pos (by omega), if_neg (by omega), mul_one]
    refine key _ (.inl ⟨h, ?_⟩); rfl
  · rw [dif_neg (by omega), dif_pos (by omega), if_pos (by omega)]
    refine Ideal.mul_congr (key _ (.inr ⟨by omega, ?_⟩)) rfl
    show 4096 + ((j 1 : ℕ) - 1024) = _; omega
  · rw [dif_neg (by omega), dif_neg (by omega), if_neg (by omega), mul_one]
    refine key _ (.inr ⟨by omega, ?_⟩)
    show 5120 + ((j 1 : ℕ) - 1024 - 1024) = _; omega
  · rw [dif_neg (by omega), dif_neg (by omega), if_neg (by omega), mul_one]
    refine key _ (.inr ⟨by omega, ?_⟩)
    show 5120 + ((j 1 : ℕ) - 1024 - 1024) = _; omega

theorem point (c : Dev nD) (t : Fin cfg0.N) (y) :
    k0_pay1 (grid0.coords t) (iblk m c 0 t) (iblk m c 1 t) y
      = REF (m ((c : Thread nD τ).loc main_arg0)) (m ((c : Thread nD τ).loc main_arg1)) (((cfg0.win 2).blk t).view.emb y) :=
  core m c t y _ (by blk_simp [idx t]) (by blk_simp [idx t])

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem algebraic : Cert.algebraic_Kernel7Ideal_Reference7Ideal := by
  pair_intro
  · run_from Cert.Kernel7Ideal.Gen.run_main m g
  · hlo_run
    exact (final m c).symm

end Cert.Kernel7Ideal.AttnRest

end
-- ==== Proof.Rotary.lean ====
module

public import proofs.«01_k».proof.Defs
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Rotary
open Cert.Kernel8Ideal Cert.Kernel8Ideal.Gen

variable (m : (ℓ : Loc nD τ sig) → Buf (Elt Ideal) ℓ)

theorem idx : ∀ t : Fin cfg0.N, win0_0.index t = ![t.val / 2, 0] ∧ win0_1.index t = ![0, t.val % 2]
    ∧ win0_2.index t = ![t.val % 2, t.val / 2 % 8, 0] ∧ win0_3.index t = ![t.val % 2, t.val / 2 % 8, 0]
    ∧ win0_4.index t = ![t.val / 2, t.val % 2] :=
  (by decide +kernel : ∀ t : Fin grid0.N, _)

/-- The product of the rows and all the input weights, as the host program computes it. -/
def PROJ (X : FVec Ideal Reference8Ideal.S32768x2048 .bf16) (W : FVec Ideal Reference8Ideal.S1x2048x7168 .f32) :
    FVec Ideal Reference8Ideal.S32768x7168 .f32 :=
  Host.dotGeneral Reference8Ideal.dot_S32768x2048_S2048x7168_S32768x7168_1_0_0_1_n_n none
    (extf FTy.f32 X Cert.Reference8Ideal.Gen.bitsLt_bf16_f32) (shapeCast Reference8Ideal.S2048x7168 W Cert.Reference8Ideal.Gen.shapeCasts_S1x2048x7168_S2048x7168)

/-- The angle of every position and frequency. -/
def ANG : FVec Ideal Reference8Ideal.S8192x64 .f32 :=
  mulf (broadcastInDim Reference8Ideal.S8192x64 ![0, 1] Cert.Reference8Ideal.Gen.bcast_S8192x1_S8192x64_0_1
      (broadcastInDim Reference8Ideal.S8192x1 ![0] Cert.Reference8Ideal.Gen.bcast_S8192_S8192x1_0 (sitofp .f32 (iotaInDim Reference8Ideal.S8192 32 0))))
    (broadcastInDim Reference8Ideal.S8192x64 ![0, 1] Cert.Reference8Ideal.Gen.bcast_S1x64_S8192x64_0_1 (broadcastInDim Reference8Ideal.S1x64 ![1] Cert.Reference8Ideal.Gen.bcast_S64_S1x64_1
      (Host.powf (broadcastInDim Reference8Ideal.S64 ![] Cert.Reference8Ideal.Gen.bcast_S_S64 (constant Reference8Ideal.S_ FTy.f32 0x461C4000#32))
        (Host.divf (Host.negf (sitofp .f32 (iotaInDim Reference8Ideal.S64 32 0)))
          (broadcastInDim Reference8Ideal.S64 ![] Cert.Reference8Ideal.Gen.bcast_S_S64 (constant Reference8Ideal.S_ FTy.f32 0x42800000#32))))))

/-- A table of positions and frequencies, spread over sequences and heads. -/
def TAB (c : FVec Ideal Reference8Ideal.S8192x64 .f32) : FVec Ideal Reference8Ideal.S4x8x8192x64 .f32 :=
  broadcastInDim Reference8Ideal.S4x8x8192x64 ![0, 1, 2, 3] Cert.Reference8Ideal.Gen.bcast_S1x1x8192x64_S4x8x8192x64_0_1_2_3
    (broadcastInDim Reference8Ideal.S1x1x8192x64 ![2, 3] Cert.Reference8Ideal.Gen.bcast_S8192x64_S1x1x8192x64_2_3 c)

/-- The rotation of every head by its position. -/
def ROT (u : FVec Ideal Reference8Ideal.S4x8x8192x128 .f32) : FVec Ideal Reference8Ideal.S4x8x8192x128 .f32 :=
  concatenate Reference8Ideal.S4x8x8192x128 3
    [⟨Reference8Ideal.S4x8x8192x64, subf (mulf (extractStridedSlice Reference8Ideal.S4x8x8192x64 ![0, 0, 0, 0] u Cert.Reference8Ideal.Gen.slices_S4x8x8192x128_S4x8x8192x64_0_0_0_0) (TAB (Host.cos ANG)))
        (mulf (extractStridedSlice Reference8Ideal.S4x8x8192x64 ![0, 0, 0, 64] u Cert.Reference8Ideal.Gen.slices_S4x8x8192x128_S4x8x8192x64_0_0_0_64) (TAB (Host.sin ANG)))⟩,
     ⟨Reference8Ideal.S4x8x8192x64, addf (mulf (extractStridedSlice Reference8Ideal.S4x8x8192x64 ![0, 0, 0, 64] u Cert.Reference8Ideal.Gen.slices_S4x8x8192x128_S4x8x8192x64_0_0_0_64) (TAB (Host.cos ANG)))
        (mulf (extractStridedSlice Reference8Ideal.S4x8x8192x64 ![0, 0, 0, 0] u Cert.Reference8Ideal.Gen.slices_S4x8x8192x128_S4x8x8192x64_0_0_0_0) (TAB (Host.sin ANG)))⟩]
    Cert.Reference8Ideal.Gen.concatenates_S4x8x8192x64_S4x8x8192x64_S4x8x8192x128_d3

/-- Rows cut into sequences and heads. -/
def HEADS (u : FVec Ideal Reference8Ideal.S32768x1024 .f32) : FVec Ideal Reference8Ideal.S4x8x8192x128 .f32 :=
  transpose Reference8Ideal.S4x8x8192x128 [0, 2, 1, 3] (shapeCast Reference8Ideal.S4x8192x8x128 u Cert.Reference8Ideal.Gen.shapeCasts_S32768x1024_S4x8192x8x128)
    Cert.Reference8Ideal.Gen.transposes_S4x8192x8x128_S4x8x8192x128_0_2_1_3

/-- Sequences and heads laid out as rows again. -/
def ROWS (u : FVec Ideal Reference8Ideal.S4x8x8192x128 .f32) : FVec Ideal Reference8Ideal.S32768x1024 .f32 :=
  shapeCast Reference8Ideal.S32768x1024 (transpose Reference8Ideal.S4x8192x8x128 [0, 2, 1, 3] u Cert.Reference8Ideal.Gen.transposes_S4x8x8192x128_S4x8192x8x128_0_2_1_3)
    Cert.Reference8Ideal.Gen.shapeCasts_S4x8192x8x128_S32768x1024

/-- The rotated queries. -/
def QROT (P : FVec Ideal Reference8Ideal.S32768x7168 .f32) : FVec Ideal Reference8Ideal.S32768x1024 .f32 :=
  ROWS (ROT (HEADS (extractStridedSlice Reference8Ideal.S32768x1024 ![0, 0] P Cert.Reference8Ideal.Gen.slices_S32768x7168_S32768x1024_0_0)))

/-- The rotated and scaled keys. -/
def KROT (P : FVec Ideal Reference8Ideal.S32768x7168 .f32) : FVec Ideal Reference8Ideal.S32768x1024 .f32 :=
  ROWS (mulf (ROT (HEADS (extractStridedSlice Reference8Ideal.S32768x1024 ![0, 1024] P Cert.Reference8Ideal.Gen.slices_S32768x7168_S32768x1024_0_1024)))
    (broadcastInDim Reference8Ideal.S4x8x8192x128 ![] Cert.Reference8Ideal.Gen.bcast_S_S4x8x8192x128 (constant Reference8Ideal.S_ FTy.f32 0x3DB504F3#32)))

/-- The rotated queries and keys, side by side. -/
def REF (X : FVec Ideal Reference8Ideal.S32768x2048 .bf16) (W : FVec Ideal Reference8Ideal.S1x2048x7168 .f32) : FVec Ideal Reference8Ideal.S32768x2048 .bf16 :=
  truncf FTy.bf16 (concatenate Reference8Ideal.S32768x2048 1 [⟨Reference8Ideal.S32768x1024, QROT (PROJ X W)⟩, ⟨Reference8Ideal.S32768x1024, KROT (PROJ X W)⟩]
    Cert.Reference8Ideal.Gen.concatenates_S32768x1024_S32768x1024_S32768x2048_d1) Cert.Reference8Ideal.Gen.bitsLt_bf16_f32

/-- The angle of a position and a frequency. -/
@[irreducible] def A (s f : ℕ) : EReal :=
  FloatOps.sitofp (F := Ideal) FTy.f32 (BitVec.ofNat 32 s) *
    Ideal.pow (Ideal.ofBits FTy.f32 1176256512#32)
      (Ideal.div (-FloatOps.sitofp (F := Ideal) FTy.f32 (BitVec.ofNat 32 f)) (Ideal.ofBits FTy.f32 1115684864#32))

theorem ang_at (i) : ANG i = A (i 0) (i 1) := by
  pointwise [ANG, A]

/-- The scale of the first or of the second table. -/
def SC (n : ℕ) : EReal := if n < 1 then 1 else Ideal.ofBits FTy.f32 1035273459#32

theorem cos_at (c : Dev nD) (i : S2x8192x128.Idx) :
    V m c main_v23 i = Ideal.cos (A (i 1) (i 2 % 64)) * SC (i 0) := by
  have hb : (i 2 : ℕ) < 128 := (i 2).isLt
  entry_read
  pointwise [A, SC]
  rcases lt_or_ge (i 0 : ℕ) 1 with h | h <;> rcases lt_or_ge (i 2 : ℕ) 64 with h2 | h2
  · rw [dif_pos h, dif_pos h2, if_pos h, mul_one, Nat.mod_eq_of_lt h2]
  · rw [dif_pos h, dif_neg (by omega), if_pos h, mul_one, show (i 2 : ℕ) % 64 = i 2 - 64 by omega]
  · rw [dif_neg (by omega), dif_pos h2, if_neg (by omega), Nat.mod_eq_of_lt h2]
  · rw [dif_neg (by omega), dif_neg (by omega), if_neg (by omega), show (i 2 : ℕ) % 64 = i 2 - 64 by omega]

theorem sin_at (c : Dev nD) (i : S2x8192x128.Idx) :
    V m c main_v28 i = (if (i 2 : ℕ) < 64 then -Ideal.sin (A (i 1) (i 2 % 64)) else Ideal.sin (A (i 1) (i 2 % 64))) * SC (i 0) := by
  have hb : (i 2 : ℕ) < 128 := (i 2).isLt
  entry_read
  pointwise [A, SC]
  rcases lt_or_ge (i 0 : ℕ) 1 with h | h <;> rcases lt_or_ge (i 2 : ℕ) 64 with h2 | h2
  · rw [dif_pos h, dif_pos h2, if_pos h2, if_pos h, mul_one, Nat.mod_eq_of_lt h2]
  · rw [dif_pos h, dif_neg (by omega), if_neg (by omega), if_pos h, mul_one, show (i 2 : ℕ) % 64 = i 2 - 64 by omega]
  · rw [dif_neg (by omega), dif_pos h2, if_pos h2, if_neg (by omega), Nat.mod_eq_of_lt h2]
  · rw [dif_neg (by omega), dif_neg (by omega), if_neg (by omega), if_neg (by omega), show (i 2 : ℕ) % 64 = i 2 - 64 by omega]

/-- One entry of the block that a grid point stores: the product's entry and its partner half a head away. -/
theorem ker (x0 x1 x2 x3) (y : S1024x1024.Idx) (d : Fin 128) (b : Fin 1024) (hd : (d : ℕ) = y 1 % 128)
    (hb : (b : ℕ) = y 1 / 128 * 128 + (y 1 % 128 + 64) % 128) : out0_4 (F := Ideal) x0 x1 x2 x3 y
      = (∑ k : Fin 2048, @HMul.hMul EReal EReal EReal _ (x0 (ix2 (y 0) k)) (x1 (ix2 k (y 1)))) * x2 (ix3 0 (y 0) d)
        + (∑ k : Fin 2048, @HMul.hMul EReal EReal EReal _ (x0 (ix2 (y 0) k)) (x1 (ix2 k b))) * x3 (ix3 0 (y 0) d) := by
  canon_tiles x h
  all_goals
    have hx : (x 1 : ℕ) < 128 := (x 1).isLt
    open_payloads
    pointwise
    refine congrArg₂ (fun p q : EReal => p + q) (Ideal.mul_congr (Fin.sum_fin_congr fun k => Ideal.mul_congr ?_ ?_) ?_)
      (Ideal.mul_congr (Fin.sum_fin_congr fun k => Ideal.mul_congr ?_ ?_) ?_) <;> blk_ext

theorem proj_eq (c : Dev nD) (t : Fin cfg0.N) (r e : Fin 1024) (l : Reference8Ideal.S32768x7168.Idx)
    (h0 : (l 0 : ℕ) = t.val / 2 * 1024 + r) (h1 : (l 1 : ℕ) = t.val % 2 * 1024 + e) :
    ∑ k : Fin 2048, @HMul.hMul EReal EReal EReal _ (iblk m c 0 t (ix2 r k)) (iblk m c 1 t (ix2 k e))
      = PROJ (m ((c : Thread nD τ).loc main_arg0)) (m ((c : Thread nD τ).loc main_arg1)) l := by
  pointwise [PROJ]
  blk_point [iblk, V, idx t]

theorem ix_eq (r : Fin 32768) (n : ℕ) (h : n < 7168) (a : Reference8Ideal.S32768x7168.Idx) (e0 : (a 0 : ℕ) = r)
    (e1 : (a 1 : ℕ) = n) : ix2 r ⟨n, h⟩ = a := by
  funext q
  refine Fin.ext ?_
  match q with
  | ⟨0, _⟩ => exact e0.symm
  | ⟨1, _⟩ => exact e1.symm

theorem qrot_at (P) (j : Reference8Ideal.S32768x1024.Idx) (a b : Reference8Ideal.S32768x7168.Idx) (s f : ℕ) (ha0 : (a 0 : ℕ) = j 0) (hb0 : (b 0 : ℕ) = j 0)
    (ha1 : (a 1 : ℕ) = j 1) (hb1 : (b 1 : ℕ) = j 1 / 128 * 128 + (j 1 % 128 + 64) % 128)
    (hs : s = j 0 % 8192) (hf : f = j 1 % 128 % 64) :
    QROT P j = if (j 1 : ℕ) % 128 < 64 then P a * Ideal.cos (A s f) - P b * Ideal.sin (A s f)
      else P a * Ideal.cos (A s f) + P b * Ideal.sin (A s f) := by
  subst hs hf
  generalize hR : (if (j 1 : ℕ) % 128 < 64 then _ else _) = R
  pointwise [QROT, ROWS, ROT, HEADS, TAB]
  simp only [ang_at]
  by_cases h : (j 1 : ℕ) % 128 < 64
  · refine Eq.trans (b := P a * Ideal.cos (A ((j 0 : ℕ) % 8192) ((j 1 : ℕ) % 128 % 64))
      - P b * Ideal.sin (A ((j 0 : ℕ) % 8192) ((j 1 : ℕ) % 128 % 64))) ?_ ((if_pos h).symm.trans hR)
    refine Eq.trans (dif_pos h) ?_
    refine congrArg₂ (fun p q : EReal => p - q)
      (Ideal.mul_congr (congrArg P ?_) (congrArg Ideal.cos (congrArg₂ A ?_ ?_)))
      (Ideal.mul_congr (congrArg P ?_) (congrArg Ideal.sin (congrArg₂ A ?_ ?_)))
    · exact ix_eq _ _ _ _ ha0 (by omega)
    · rfl
    · show (j 1 : ℕ) % 128 = (j 1 : ℕ) % 128 % 64; omega
    · exact ix_eq _ _ _ _ hb0 (by omega)
    · rfl
    · show (j 1 : ℕ) % 128 = (j 1 : ℕ) % 128 % 64; omega
  · refine Eq.trans (b := P a * Ideal.cos (A ((j 0 : ℕ) % 8192) ((j 1 : ℕ) % 128 % 64))
      + P b * Ideal.sin (A ((j 0 : ℕ) % 8192) ((j 1 : ℕ) % 128 % 64))) ?_ ((if_neg h).symm.trans hR)
    refine Eq.trans (dif_neg h) ?_
    refine congrArg₂ (fun p q : EReal => p + q)
      (Ideal.mul_congr (congrArg P ?_) (congrArg Ideal.cos (congrArg₂ A ?_ ?_)))
      (Ideal.mul_congr (congrArg P ?_) (congrArg Ideal.sin (congrArg₂ A ?_ ?_)))
    · exact ix_eq _ _ _ _ ha0 (by omega)
    · rfl
    · show (j 1 : ℕ) % 128 - 64 = (j 1 : ℕ) % 128 % 64; omega
    · exact ix_eq _ _ _ _ hb0 (by omega)
    · rfl
    · show (j 1 : ℕ) % 128 - 64 = (j 1 : ℕ) % 128 % 64; omega

theorem krot_at (P) (j : Reference8Ideal.S32768x1024.Idx) (a b : Reference8Ideal.S32768x7168.Idx) (s f : ℕ) (ha0 : (a 0 : ℕ) = j 0) (hb0 : (b 0 : ℕ) = j 0)
    (ha1 : (a 1 : ℕ) = 1024 + j 1) (hb1 : (b 1 : ℕ) = 1024 + j 1 / 128 * 128 + (j 1 % 128 + 64) % 128)
    (hs : s = j 0 % 8192) (hf : f = j 1 % 128 % 64) :
    KROT P j = (if (j 1 : ℕ) % 128 < 64 then P a * Ideal.cos (A s f) - P b * Ideal.sin (A s f)
      else P a * Ideal.cos (A s f) + P b * Ideal.sin (A s f)) * Ideal.ofBits FTy.f32 1035273459#32 := by
  subst hs hf
  generalize hR : (if (j 1 : ℕ) % 128 < 64 then _ else _) = R
  pointwise [KROT, ROWS, ROT, HEADS, TAB]
  simp only [ang_at]
  refine Ideal.mul_congr ?_ rfl
  by_cases h : (j 1 : ℕ) % 128 < 64
  · refine Eq.trans (b := P a * Ideal.cos (A ((j 0 : ℕ) % 8192) ((j 1 : ℕ) % 128 % 64))
      - P b * Ideal.sin (A ((j 0 : ℕ) % 8192) ((j 1 : ℕ) % 128 % 64))) ?_ ((if_pos h).symm.trans hR)
    refine Eq.trans (dif_pos h) ?_
    refine congrArg₂ (fun p q : EReal => p - q)
      (Ideal.mul_congr (congrArg P ?_) (congrArg Ideal.cos (congrArg₂ A ?_ ?_)))
      (Ideal.mul_congr (congrArg P ?_) (congrArg Ideal.sin (congrArg₂ A ?_ ?_)))
    · exact ix_eq _ _ _ _ ha0 (by omega)
    · rfl
    · show (j 1 : ℕ) % 128 = (j 1 : ℕ) % 128 % 64; omega
    · exact ix_eq _ _ _ _ hb0 (by omega)
    · rfl
    · show (j 1 : ℕ) % 128 = (j 1 : ℕ) % 128 % 64; omega
  · refine Eq.trans (b := P a * Ideal.cos (A ((j 0 : ℕ) % 8192) ((j 1 : ℕ) % 128 % 64))
      + P b * Ideal.sin (A ((j 0 : ℕ) % 8192) ((j 1 : ℕ) % 128 % 64))) ?_ ((if_neg h).symm.trans hR)
    refine Eq.trans (dif_neg h) ?_
    refine congrArg₂ (fun p q : EReal => p + q)
      (Ideal.mul_congr (congrArg P ?_) (congrArg Ideal.cos (congrArg₂ A ?_ ?_)))
      (Ideal.mul_congr (congrArg P ?_) (congrArg Ideal.sin (congrArg₂ A ?_ ?_)))
    · exact ix_eq _ _ _ _ ha0 (by omega)
    · rfl
    · show (j 1 : ℕ) % 128 - 64 = (j 1 : ℕ) % 128 % 64; omega
    · exact ix_eq _ _ _ _ hb0 (by omega)
    · rfl
    · show (j 1 : ℕ) % 128 - 64 = (j 1 : ℕ) % 128 % 64; omega

theorem ref_at (X W) (j : S32768x2048.Idx) : REF X W j = if h : (j 1 : ℕ) < 1024 then QROT (PROJ X W) (ix2 (j 0) ⟨j 1, h⟩)
    else KROT (PROJ X W) (ix2 (j 0) ⟨j 1 - 1024, by have : (j 1 : ℕ) < 2048 := (j 1).isLt; omega⟩) := by
  pointwise [REF]

/-- The scale is a finite number that is not negative. -/
theorem scale_real : ∃ r : ℝ, 0 ≤ r ∧ Ideal.ofBits FTy.f32 1035273459#32 = (r : EReal) := by
  refine ⟨11863283 / 134217728, by norm_num, ?_⟩
  simp [Ideal.ofBits, Ideal.ieee]
  rw [← EReal.coe_mul]
  norm_num

/-- The two halves of a rotation, unscaled and scaled. -/
theorem alg (n d : ℕ) (p q u v : EReal) : p * (u * SC n) + q * ((if d < 64 then -v else v) * SC n)
    = (if d < 64 then p * u - q * v else p * u + q * v) * SC n := by
  have h : 0 ≤ SC n ∧ SC n ≠ ⊤ := by
    obtain ⟨r, hr, e⟩ := scale_real
    unfold SC
    split_ifs
    · exact ⟨zero_le_one, EReal.coe_ne_top 1⟩
    · rw [e]; exact ⟨EReal.coe_nonneg.2 hr, EReal.coe_ne_top r⟩
  split_ifs
  · rw [sub_eq_add_neg, EReal.right_distrib_of_nonneg_of_ne_top h.1 h.2, ← mul_assoc, ← mul_assoc, mul_neg]
  · rw [EReal.right_distrib_of_nonneg_of_ne_top h.1 h.2, ← mul_assoc, ← mul_assoc]

theorem cos_blk (c : Dev nD) (t : Fin cfg0.N) (r : Fin 1024) (d : Fin 128) :
    iblk m c 2 t (ix3 0 r d) = Ideal.cos (A (t.val / 2 % 8 * 1024 + r) (d % 64)) * SC (t.val % 2) := by
  refine (cos_at m c _).trans ?_
  blk_simp [idx t]
  rfl

theorem sin_blk (c : Dev nD) (t : Fin cfg0.N) (r : Fin 1024) (d : Fin 128) :
    iblk m c 3 t (ix3 0 r d) = (if (d : ℕ) < 64 then -Ideal.sin (A (t.val / 2 % 8 * 1024 + r) (d % 64))
      else Ideal.sin (A (t.val / 2 % 8 * 1024 + r) (d % 64))) * SC (t.val % 2) := by
  refine (sin_at m c _).trans ?_
  blk_simp [idx t]
  rfl

theorem core (c : Dev nD) (t : Fin cfg0.N) (y : S1024x1024.Idx) (j : S32768x2048.Idx)
    (h0 : (j 0 : ℕ) = t.val / 2 * 1024 + y 0) (h1 : (j 1 : ℕ) = t.val % 2 * 1024 + y 1) :
    out0_4 (F := Ideal) (iblk m c 0 t) (iblk m c 1 t) (iblk m c 2 t) (iblk m c 3 t) y
      = REF (m ((c : Thread nD τ).loc main_arg0)) (m ((c : Thread nD τ).loc main_arg1)) j := by
  have y1 : (y 1 : ℕ) < 1024 := (y 1).isLt
  have y0 : (y 0 : ℕ) < 1024 := (y 0).isLt
  have j0 : (j 0 : ℕ) < 32768 := (j 0).isLt
  obtain ⟨d, hd⟩ : ∃ d : Fin 128, (d : ℕ) = y 1 % 128 := ⟨⟨_, Nat.mod_lt _ (by decide)⟩, rfl⟩
  obtain ⟨b, hb⟩ : ∃ b : Fin 1024, (b : ℕ) = y 1 / 128 * 128 + (y 1 % 128 + 64) % 128 := ⟨⟨_, by omega⟩, rfl⟩
  have q : t.val % 2 < 2 := by omega
  obtain ⟨a', ha'⟩ : ∃ a' : Fin 7168, (a' : ℕ) = t.val % 2 * 1024 + y 1 := ⟨⟨_, by omega⟩, rfl⟩
  obtain ⟨b', hb'⟩ : ∃ b' : Fin 7168, (b' : ℕ) = t.val % 2 * 1024 + b := ⟨⟨_, by omega⟩, rfl⟩
  refine (ker _ _ _ _ y d b hd hb).trans ?_
  refine Eq.trans (congrArg₂ (fun p q : EReal => p + q)
    (Ideal.mul_congr (proj_eq m c t (y 0) (y 1) (ix2 (j 0) a') h0 ha') (cos_blk m c t (y 0) d))
    (Ideal.mul_congr (proj_eq m c t (y 0) b (ix2 (j 0) b') h0 hb') (sin_blk m c t (y 0) d))) ?_
  refine (alg _ _ _ _ _ _).trans ?_
  rw [ref_at]
  rcases Nat.lt_or_ge (j 1) 1024 with h | h
  · rw [dif_pos h, qrot_at _ _ (ix2 (j 0) a') (ix2 (j 0) b') (t.val / 2 % 8 * 1024 + y 0) (d % 64) rfl rfl ?_ ?_ ?_ ?_]
    · rw [SC, if_pos (show t.val % 2 < 1 by omega), mul_one]
      show (if (d : ℕ) < 64 then _ else _) = (if (j 1 : ℕ) % 128 < 64 then _ else _)
      rw [show (j 1 : ℕ) % 128 = d by omega]
    · show (a' : ℕ) = j 1; omega
    · show (b' : ℕ) = (j 1 : ℕ) / 128 * 128 + ((j 1 : ℕ) % 128 + 64) % 128; omega
    · show _ = (j 0 : ℕ) % 8192; omega
    · show _ = (j 1 : ℕ) % 128 % 64; omega
  · rw [dif_neg (by omega), krot_at _ _ (ix2 (j 0) a') (ix2 (j 0) b') (t.val / 2 % 8 * 1024 + y 0) (d % 64) rfl rfl ?_ ?_ ?_ ?_]
    · rw [SC, if_neg (show ¬ t.val % 2 < 1 by omega)]
      show (if (d : ℕ) < 64 then _ else _) * _ = (if ((j 1 : ℕ) - 1024) % 128 < 64 then _ else _) * _
      rw [show ((j 1 : ℕ) - 1024) % 128 = d by omega]
    · show (a' : ℕ) = 1024 + ((j 1 : ℕ) - 1024); omega
    · show (b' : ℕ) = 1024 + ((j 1 : ℕ) - 1024) / 128 * 128 + (((j 1 : ℕ) - 1024) % 128 + 64) % 128; omega
    · show _ = (j 0 : ℕ) % 8192; omega
    · show _ = ((j 1 : ℕ) - 1024) % 128 % 64; omega

theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]
  exact core m c t y _ (by blk_simp [idx t]) (by blk_simp [idx t])

theorem algebraic : Cert.algebraic_Kernel8Ideal_Reference8Ideal := by
  pair_intro
  · run_from Cert.Kernel8Ideal.Gen.run_main m g
  · hlo_run
    refine Eq.trans (b := REF (m ((c : Thread nD τ).loc main_arg0)) (m ((c : Thread nD τ).loc main_arg1))) ?_ (final m c).symm
    rfl

end Cert.Kernel8Ideal.Rotary

end
-- ==== Proof.DownLast.lean ====
module

public import proofs.«01_k».proof.Defs
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Down
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.DownLast
open Cert.Kernel9Ideal Cert.Kernel9Ideal.Gen

variable (m : (ℓ : Loc nD τ sig) → Buf (Elt Ideal) ℓ)

theorem idx : ∀ t : Fin cfg0.N, win0_0.index t = ![t.val, 0] ∧ win0_1.index t = ![t.val, 0]
    ∧ win0_2.index t = ![1, 1, 0, 0] ∧ win0_3.index t = ![0, 0] ∧ win0_4.index t = ![0, 0]
    ∧ win0_5.index t = ![t.val, 0] :=
  (by decide +kernel : ∀ t : Fin grid0.N, _)

/-- The residual stream before its normalisation, as the host program computes it. -/
def RES (H : FVec Ideal Reference9Ideal.S32768x2048 .f32) (A : FVec Ideal Reference9Ideal.S32768x5632 .bf16)
    (W : FVec Ideal Reference9Ideal.S2x2x5632x2048 .f32) : FVec Ideal Reference9Ideal.S32768x2048 .f32 :=
  addf (mulf (broadcastInDim Reference9Ideal.S32768x2048 ![] Cert.Reference9Ideal.Gen.bcast_S_S32768x2048
      (constant Reference9Ideal.S_ FTy.f32 1068827891#32)) H)
    (mulf (broadcastInDim Reference9Ideal.S32768x2048 ![] Cert.Reference9Ideal.Gen.bcast_S_S32768x2048
        (constant Reference9Ideal.S_ FTy.f32 1056964608#32))
      (Host.dotGeneral Reference9Ideal.dot_S32768x5632_S5632x2048_S32768x2048_1_0_0_1_n_n none
        (extf FTy.f32 A Cert.Reference9Ideal.Gen.bitsLt_bf16_f32)
        (shapeCast Reference9Ideal.S5632x2048 (extractStridedSlice Reference9Ideal.S1x1x5632x2048 ![1, 1, 0, 0] W
          Cert.Reference9Ideal.Gen.slices_S2x2x5632x2048_S1x1x5632x2048_1_1_0_0) Cert.Reference9Ideal.Gen.shapeCasts_S1x1x5632x2048_S5632x2048)))

/-- The mean of every row. -/
def MEAN (Y : FVec Ideal Reference9Ideal.S32768x2048 .f32) : FVec Ideal Reference9Ideal.S32768x1 .f32 :=
  Host.divf (broadcastInDim Reference9Ideal.S32768x1 ![0] Cert.Reference9Ideal.Gen.bcast_S32768_S32768x1_0
      (Host.reduceAdd Y (constant Reference9Ideal.S_ FTy.f32 0#32) Cert.Reference9Ideal.Gen.reducesTo_S32768x2048_S32768_d1 Cert.Reference9Ideal.Gen.h_S_))
    (broadcastInDim Reference9Ideal.S32768x1 ![] Cert.Reference9Ideal.Gen.bcast_S_S32768x1 (constant Reference9Ideal.S_ FTy.f32 1157627904#32))

/-- A row minus its mean. -/
def CEN (Y : FVec Ideal Reference9Ideal.S32768x2048 .f32) : FVec Ideal Reference9Ideal.S32768x2048 .f32 :=
  subf Y (broadcastInDim Reference9Ideal.S32768x2048 ![0, 1] Cert.Reference9Ideal.Gen.bcast_S32768x1_S32768x2048_0_1 (MEAN Y))

/-- The last row of the second layer in a stack of vectors, spread over the rows. -/
def VEC (G : FVec Ideal Reference9Ideal.S2x3x2048 .f32) : FVec Ideal Reference9Ideal.S32768x2048 .f32 :=
  broadcastInDim Reference9Ideal.S32768x2048 ![0, 1] Cert.Reference9Ideal.Gen.bcast_S1x2048_S32768x2048_0_1
    (broadcastInDim Reference9Ideal.S1x2048 ![1] Cert.Reference9Ideal.Gen.bcast_S2048_S1x2048_1
      (shapeCast Reference9Ideal.S2048 (extractStridedSlice Reference9Ideal.S1x1x2048 ![1, 2, 0] G
        Cert.Reference9Ideal.Gen.slices_S2x3x2048_S1x1x2048_1_2_0) Cert.Reference9Ideal.Gen.shapeCasts_S1x1x2048_S2048))

/-- The layer norm of every row. -/
def LN (Y : FVec Ideal Reference9Ideal.S32768x2048 .f32) (G B : FVec Ideal Reference9Ideal.S2x3x2048 .f32) :
    FVec Ideal Reference9Ideal.S32768x2048 .f32 :=
  addf (mulf (mulf (CEN Y) (broadcastInDim Reference9Ideal.S32768x2048 ![0, 1] Cert.Reference9Ideal.Gen.bcast_S32768x1_S32768x2048_0_1
    (Host.rsqrt (addf (MEAN (mulf (CEN Y) (CEN Y))) (broadcastInDim Reference9Ideal.S32768x1 ![] Cert.Reference9Ideal.Gen.bcast_S_S32768x1
      (constant Reference9Ideal.S_ FTy.f32 925353388#32)))))) (VEC G)) (VEC B)

/-- The launch's weight, halved by the host, at an index. -/
theorem wd_at (c : Dev nD) (i : S2x2x5632x2048.Idx) :
    V m c main_v2 i = (Ideal.ofBits .f32 1056964608#32 * (m ((c : Thread nD τ).loc main_arg2) i : EReal) : EReal) := by
  entry_read
  pointwise

theorem point (c : Dev nD) (t : Fin cfg0.N) (y) :
    k0_pay1 (iblk m c 1 t) (iblk m c 2 t) (iblk m c 0 t) (iblk m c 3 t) (iblk m c 4 t) y
      = LN (RES (m ((c : Thread nD τ).loc main_arg0)) (m ((c : Thread nD τ).loc main_arg1))
          (m ((c : Thread nD τ).loc main_arg2))) (m ((c : Thread nD τ).loc main_arg3))
          (m ((c : Thread nD τ).loc main_arg4)) (((cfg0.win 5).blk t).view.emb y) := by
  pointwise [k0_pay1, LN, VEC, CEN, MEAN, RES]
  simp only [Cert.Kernel2Ideal.Down.half_sum]
  blk_point [iblk, V, idx t]
  all_goals
    refine Ideal.mul_congr rfl ((wd_at m c _).trans (Ideal.mul_congr rfl ?_))
    blk_ext [idx t]

theorem final5 (c : Dev nD) : (dats m 0 c).arrAt 5 (cfgs 0).N
    = LN (RES (m ((c : Thread nD τ).loc main_arg0)) (m ((c : Thread nD τ).loc main_arg1))
        (m ((c : Thread nD τ).loc main_arg2))) (m ((c : Thread nD τ).loc main_arg3))
        (m ((c : Thread nD τ).loc main_arg4)) := by
  refine (dats m 0 c).arrAt_eq_of_covers 5 _ (by decide +kernel) fun t _ y => ?_
  blk_simp
  rw [after0_5]; frame_out
  exact point m c t y

theorem algebraic : Cert.algebraic_Kernel9Ideal_Reference9Ideal := by
  pair_intro
  · run_from Cert.Kernel9Ideal.Gen.run_main m g
  · hlo_run
    exact (final5 m c).symm

end Cert.Kernel9Ideal.DownLast

end
-- ==== Proof.RetRef.lean ====
module

public import proofs.«01_k».proof.Defs
public import proofs.«01_k».proof.Proof.Gen.Reference10Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference10Ideal.Ret
open Cert.Reference10Ideal Cert.Reference10Ideal.Gen

/-- Rows and columns cut into sequences, heads and chunks. -/
def HEADS (u : FVec Ideal S32768x1024 .f32) : FVec Ideal S4x8x32x256x128 .f32 :=
  transpose S4x8x32x256x128 [0, 3, 1, 2, 4] (shapeCast S4x32x256x8x128 u shapeCasts_S32768x1024_S4x32x256x8x128)
    transposes_S4x32x256x8x128_S4x8x32x256x128_0_3_1_2_4

/-- The queries. -/
def QA (X : FVec Ideal S32768x2048 .bf16) : FVec Ideal S4x8x32x256x128 .f32 :=
  HEADS (extf .f32 (extractStridedSlice S32768x1024 ![0, 0] X slices_S32768x2048_S32768x1024_0_0) bitsLt_bf16_f32)

/-- The keys. -/
def KA (X : FVec Ideal S32768x2048 .bf16) : FVec Ideal S4x8x32x256x128 .f32 :=
  HEADS (extf .f32 (extractStridedSlice S32768x1024 ![0, 1024] X slices_S32768x2048_S32768x1024_0_1024) bitsLt_bf16_f32)

/-- The values. -/
def VA (X : FVec Ideal S32768x4096 .bf16) : FVec Ideal S4x8x32x256x128 .f32 :=
  HEADS (extf .f32 (extractStridedSlice S32768x1024 ![0, 0] X slices_S32768x4096_S32768x1024_0_0) bitsLt_bf16_f32)

/-- The logarithm of every head's decay. -/
def LGA : FVec Ideal S8 .f32 :=
  Host.log1p (Host.negf (Host.exp (mulf (broadcastInDim S8 ![] bcast_S_S8 (constant S_ .f32 0x3F317218#32))
    (subf (broadcastInDim S8 ![] bcast_S_S8 (constant S_ .f32 0xC0A00000#32)) (sitofp .f32 (iotaInDim S8 32 0))))))

/-- The distance of two positions of a chunk. -/
def REL : FVec Ideal S256x256 .f32 :=
  subf (broadcastInDim S256x256 ![0, 1] bcast_S256x1_S256x256_0_1 (broadcastInDim S256x1 ![0] bcast_S256_S256x1_0 (sitofp .f32 (iotaInDim S256 32 0))))
    (broadcastInDim S256x256 ![0, 1] bcast_S1x256_S256x256_0_1 (broadcastInDim S1x256 ![1] bcast_S256_S1x256_1 (sitofp .f32 (iotaInDim S256 32 0))))

/-- The decay between two positions of a chunk. -/
def INTRA : FVec Ideal S8x256x256 .f32 :=
  select (broadcastInDim S8x256x256 ![1, 2] bcast_S256x256_S8x256x256_1_2
      (cmpf .oge REL (broadcastInDim S256x256 ![] bcast_S_S256x256 (constant S_ .f32 0x00000000#32))))
    (Host.exp (mulf (broadcastInDim S8x256x256 ![0, 1, 2] bcast_S1x256x256_S8x256x256_0_1_2 (broadcastInDim S1x256x256 ![1, 2] bcast_S256x256_S1x256x256_1_2
        (maximumf REL (broadcastInDim S256x256 ![] bcast_S_S256x256 (constant S_ .f32 0x00000000#32)))))
      (broadcastInDim S8x256x256 ![0, 1, 2] bcast_S8x1x1_S8x256x256_0_1_2 (broadcastInDim S8x1x1 ![0] bcast_S8_S8x1x1_0 LGA))))
    (broadcastInDim S8x256x256 ![] bcast_S_S8x256x256 (constant S_ .f32 0x00000000#32))

/-- The decay from a position to its chunk's end. -/
def KDEC : FVec Ideal S8x256 .f32 :=
  Host.exp (mulf (broadcastInDim S8x256 ![0, 1] bcast_S1x256_S8x256_0_1 (broadcastInDim S1x256 ![1] bcast_S256_S1x256_1
      (subf (broadcastInDim S256 ![] bcast_S_S256 (constant S_ .f32 0x437F0000#32)) (sitofp .f32 (iotaInDim S256 32 0)))))
    (broadcastInDim S8x256 ![0, 1] bcast_S8x1_S8x256_0_1 (broadcastInDim S8x1 ![0] bcast_S8_S8x1_0 LGA)))

/-- The decay from the end of the chunk before to a position. -/
def QDEC : FVec Ideal S8x256 .f32 :=
  Host.exp (mulf (broadcastInDim S8x256 ![0, 1] bcast_S1x256_S8x256_0_1 (broadcastInDim S1x256 ![1] bcast_S256_S1x256_1
      (addf (sitofp .f32 (iotaInDim S256 32 0)) (broadcastInDim S256 ![] bcast_S_S256 (constant S_ .f32 0x3F800000#32)))))
    (broadcastInDim S8x256 ![0, 1] bcast_S8x1_S8x256_0_1 (broadcastInDim S8x1 ![0] bcast_S8_S8x1_0 LGA)))

/-- The part of the output from positions of the same chunk. -/
def INNER (q k v : FVec Ideal S4x8x32x256x128 .f32) : FVec Ideal S4x8x32x256x128 .f32 :=
  Host.dotGeneral dot_S4x8x32x256x256_S4x8x32x256x128_S4x8x32x256x128_4_3_3_4_012_012 none
    (mulf (Host.dotGeneral dot_S4x8x32x256x128_S4x8x32x256x128_S4x8x32x256x256_4_4_3_3_012_012 none q k)
      (broadcastInDim S4x8x32x256x256 ![0, 1, 2, 3, 4] bcast_S1x8x1x256x256_S4x8x32x256x256_0_1_2_3_4
        (broadcastInDim S1x8x1x256x256 ![1, 3, 4] bcast_S8x256x256_S1x8x1x256x256_1_3_4 INTRA))) v

/-- What every chunk adds to the state. -/
def KV (k v : FVec Ideal S4x8x32x256x128 .f32) : FVec Ideal S4x8x32x128x128 .f32 :=
  Host.dotGeneral dot_S4x8x32x256x128_S4x8x32x256x128_S4x8x32x128x128_3_3_4_4_012_012 none
    (mulf k (broadcastInDim S4x8x32x256x128 ![0, 1, 2, 3, 4] bcast_S1x8x1x256x1_S4x8x32x256x128_0_1_2_3_4
      (broadcastInDim S1x8x1x256x1 ![1, 3] bcast_S8x256_S1x8x1x256x1_1_3 KDEC))) v

/-- The number of whole chunks between two chunks. -/
def PAST : FVec Ideal S32x32 .f32 :=
  subf (subf (broadcastInDim S32x32 ![0, 1] bcast_S32x1_S32x32_0_1 (broadcastInDim S32x1 ![0] bcast_S32_S32x1_0 (sitofp .f32 (iotaInDim S32 32 0))))
    (broadcastInDim S32x32 ![0, 1] bcast_S1x32_S32x32_0_1 (broadcastInDim S1x32 ![1] bcast_S32_S1x32_1 (sitofp .f32 (iotaInDim S32 32 0)))))
    (broadcastInDim S32x32 ![] bcast_S_S32x32 (constant S_ .f32 0x3F800000#32))

/-- The decay between two chunks. -/
def DEC : FVec Ideal S8x32x32 .f32 :=
  select (broadcastInDim S8x32x32 ![1, 2] bcast_S32x32_S8x32x32_1_2
      (cmpf .oge PAST (broadcastInDim S32x32 ![] bcast_S_S32x32 (constant S_ .f32 0x00000000#32))))
    (Host.exp (mulf (broadcastInDim S8x32x32 ![0, 1, 2] bcast_S1x32x32_S8x32x32_0_1_2 (broadcastInDim S1x32x32 ![1, 2] bcast_S32x32_S1x32x32_1_2
        (maximumf PAST (broadcastInDim S32x32 ![] bcast_S_S32x32 (constant S_ .f32 0x00000000#32)))))
      (broadcastInDim S8x32x32 ![0, 1, 2] bcast_S8x1x1_S8x32x32_0_1_2 (broadcastInDim S8x1x1 ![0] bcast_S8_S8x1x1_0
        (mulf (broadcastInDim S8 ![] bcast_S_S8 (constant S_ .f32 0x43800000#32)) LGA)))))
    (broadcastInDim S8x32x32 ![] bcast_S_S8x32x32 (constant S_ .f32 0x00000000#32))

/-- The state before every chunk. -/
def PREV (kv : FVec Ideal S4x8x32x128x128 .f32) : FVec Ideal S4x8x32x128x128 .f32 :=
  transpose S4x8x32x128x128 [2, 0, 1, 3, 4] (Host.dotGeneral dot_S8x32x32_S4x8x32x128x128_S8x32x4x128x128_2_2_1_034_0_1 none DEC kv)
    transposes_S8x32x4x128x128_S4x8x32x128x128_2_0_1_3_4

/-- The output before it is normalised. -/
def RO (q k v : FVec Ideal S4x8x32x256x128 .f32) : FVec Ideal S4x8x32x256x128 .f32 :=
  addf (INNER q k v) (mulf (Host.dotGeneral dot_S4x8x32x256x128_S4x8x32x128x128_S4x8x32x256x128_4_3_3_4_012_012 none q (PREV (KV k v)))
    (broadcastInDim S4x8x32x256x128 ![0, 1, 2, 3, 4] bcast_S1x8x1x256x1_S4x8x32x256x128_0_1_2_3_4
      (broadcastInDim S1x8x1x256x1 ![1, 3] bcast_S8x256_S1x8x1x256x1_1_3 QDEC)))

/-- The mean over a head's columns. -/
def MEAN (u : FVec Ideal S4x8x32x256x128 .f32) : FVec Ideal S4x8x32x256x1 .f32 :=
  Host.divf (broadcastInDim S4x8x32x256x1 ![0, 1, 2, 3] bcast_S4x8x32x256_S4x8x32x256x1_0_1_2_3
      (Host.reduceAdd u (constant S_ .f32 0x00000000#32) reducesTo_S4x8x32x256x128_S4x8x32x256_d4 h_S_))
    (broadcastInDim S4x8x32x256x1 ![] bcast_S_S4x8x32x256x1 (constant S_ .f32 0x43000000#32))

/-- The output less its mean. -/
def CENT (u : FVec Ideal S4x8x32x256x128 .f32) : FVec Ideal S4x8x32x256x128 .f32 :=
  subf u (broadcastInDim S4x8x32x256x128 ![0, 1, 2, 3, 4] bcast_S4x8x32x256x1_S4x8x32x256x128_0_1_2_3_4 (MEAN u))

/-- The normalised output. -/
def GN (u : FVec Ideal S4x8x32x256x128 .f32) : FVec Ideal S4x8x32x256x128 .f32 :=
  mulf (CENT u) (broadcastInDim S4x8x32x256x128 ![0, 1, 2, 3, 4] bcast_S4x8x32x256x1_S4x8x32x256x128_0_1_2_3_4
    (Host.rsqrt (addf (MEAN (mulf (CENT u) (CENT u))) (broadcastInDim S4x8x32x256x1 ![] bcast_S_S4x8x32x256x1 (constant S_ .f32 0x3727C5AC#32)))))

/-- The gate of every entry. -/
def SILU (g : FVec Ideal S32768x1024 .f32) : FVec Ideal S32768x1024 .f32 :=
  mulf g (Host.divf (broadcastInDim S32768x1024 ![] bcast_S_S32768x1024 (constant S_ .f32 0x3F800000#32))
    (addf (broadcastInDim S32768x1024 ![] bcast_S_S32768x1024 (constant S_ .f32 0x3F800000#32)) (Host.exp (Host.negf g))))

/-- The scaled, shifted and gated output, laid out as rows. -/
def OUT (u : FVec Ideal S4x8x32x256x128 .f32) (g : FVec Ideal S32768x1024 .f32) (a b : FVec Ideal S1x1024 .f32) : FVec Ideal S32768x1024 .bf16 :=
  truncf .bf16 (mulf (SILU g) (addf (mulf
      (shapeCast S32768x1024 (transpose S4x32x256x8x128 [0, 2, 3, 1, 4] (GN u) transposes_S4x8x32x256x128_S4x32x256x8x128_0_2_3_1_4)
        shapeCasts_S4x32x256x8x128_S32768x1024)
      (broadcastInDim S32768x1024 ![0, 1] bcast_S1x1024_S32768x1024_0_1 (broadcastInDim S1x1024 ![1] bcast_S1024_S1x1024_1 (shapeCast S1024 a shapeCasts_S1x1024_S1024))))
      (broadcastInDim S32768x1024 ![0, 1] bcast_S1x1024_S32768x1024_0_1 (broadcastInDim S1x1024 ![1] bcast_S1024_S1x1024_1 (shapeCast S1024 b shapeCasts_S1x1024_S1024)))))
    bitsLt_bf16_f32

/-- The gated retention output. -/
def REF (X0 : FVec Ideal S32768x2048 .bf16) (X1 : FVec Ideal S32768x4096 .bf16) (g : FVec Ideal S32768x1024 .f32) (a b : FVec Ideal S1x1024 .f32) :
    FVec Ideal S32768x1024 .bf16 :=
  OUT (RO (QA X0) (KA X0) (VA X1)) g a b

/-- The decay of one chunk. -/
def CD (h : Fin 8) : EReal := Ideal.exp (Ideal.ofBits FTy.f32 1132462080#32 * LGA (ix1 h))

/-- An entry of a row of numbers less their mean and over their deviation. -/
def GNS (f : Fin 128 → EReal) (e : Fin 128) : EReal :=
  (f e - Ideal.div (∑ x, f x) (Ideal.ofBits FTy.f32 1124073472#32)) *
    Ideal.rsqrt (Ideal.div (∑ x, (f x - Ideal.div (∑ y, f y) (Ideal.ofBits FTy.f32 1124073472#32)) *
        (f x - Ideal.div (∑ y, f y) (Ideal.ofBits FTy.f32 1124073472#32))) (Ideal.ofBits FTy.f32 1124073472#32)
      + Ideal.ofBits FTy.f32 925353388#32)

theorem qa_at (X) (b : Fin 4) (h : Fin 8) (n : Fin 32) (s : Fin 256) (d : Fin 128) (j : S32768x2048.Idx)
    (h0 : (j 0 : ℕ) = b * 8192 + n * 256 + s) (h1 : (j 1 : ℕ) = h * 128 + d) : QA X (ix5 b h n s d) = X j := by
  pointwise [QA, HEADS]
  refine congrArg X ?_
  funext q
  refine Fin.ext ?_
  match q with
  | ⟨0, _⟩ => exact h0.symm
  | ⟨1, _⟩ => exact h1.symm

theorem ka_at (X) (b : Fin 4) (h : Fin 8) (n : Fin 32) (s : Fin 256) (d : Fin 128) (j : S32768x2048.Idx)
    (h0 : (j 0 : ℕ) = b * 8192 + n * 256 + s) (h1 : (j 1 : ℕ) = 1024 + (h * 128 + d)) : KA X (ix5 b h n s d) = X j := by
  pointwise [KA, HEADS]
  refine congrArg X ?_
  funext q
  refine Fin.ext ?_
  match q with
  | ⟨0, _⟩ => exact h0.symm
  | ⟨1, _⟩ => exact h1.symm

theorem va_at (X) (b : Fin 4) (h : Fin 8) (n : Fin 32) (s : Fin 256) (d : Fin 128) (j : S32768x4096.Idx)
    (h0 : (j 0 : ℕ) = b * 8192 + n * 256 + s) (h1 : (j 1 : ℕ) = h * 128 + d) : VA X (ix5 b h n s d) = X j := by
  pointwise [VA, HEADS]
  refine congrArg X ?_
  funext q
  refine Fin.ext ?_
  match q with
  | ⟨0, _⟩ => exact h0.symm
  | ⟨1, _⟩ => exact h1.symm

theorem kv_at (k v) (b : Fin 4) (h : Fin 8) (n : Fin 32) (d e : Fin 128) :
    KV k v (ix5 b h n d e) = ∑ s : Fin 256, k (ix5 b h n s d) * KDEC (ix2 h s) * v (ix5 b h n s e) := by
  pointwise [KV]

theorem prev_at (kv) (b : Fin 4) (h : Fin 8) (n : Fin 32) (d e : Fin 128) :
    PREV kv (ix5 b h n d e) = ∑ x : Fin 32, DEC (ix3 h n x) * kv (ix5 b h x d e) := by
  pointwise [PREV]

theorem ro_at (q k v) (b : Fin 4) (h : Fin 8) (n : Fin 32) (s : Fin 256) (e : Fin 128) :
    RO q k v (ix5 b h n s e)
      = (∑ x : Fin 256, (∑ d : Fin 128, q (ix5 b h n s d) * k (ix5 b h n x d)) * INTRA (ix3 h s x) * v (ix5 b h n x e))
        + (∑ d : Fin 128, q (ix5 b h n s d) * PREV (KV k v) (ix5 b h n d e)) * QDEC (ix2 h s) := by
  pointwise [RO, INNER]

theorem gn_at (u) (b : Fin 4) (h : Fin 8) (n : Fin 32) (s : Fin 256) (e : Fin 128) :
    GN u (ix5 b h n s e) = GNS (fun x => u (ix5 b h n s x)) e := by
  pointwise [GN, CENT, MEAN, GNS]

theorem out_at (u g a b) (i : S32768x1024.Idx) (B : Fin 4) (h : Fin 8) (n : Fin 32) (s : Fin 256) (e : Fin 128)
    (h0 : (i 0 : ℕ) = B * 8192 + n * 256 + s) (h1 : (i 1 : ℕ) = h * 128 + e) :
    OUT u g a b i = g i * Ideal.div 1 (1 + Ideal.exp (-g i)) * (GNS (fun x => u (ix5 B h n s x)) e * a (ix2 0 (i 1)) + b (ix2 0 (i 1))) := by
  rw [← gn_at]
  pointwise [OUT, SILU]
  refine congrArg (fun p => g i * Ideal.div 1 (1 + Ideal.exp (-g i)) * (p * a (ix2 0 (i 1)) + b (ix2 0 (i 1)))) (congrArg (GN u) ?_)
  have := B.isLt; have := h.isLt; have := n.isLt; have := s.isLt; have := e.isLt
  funext q
  refine Fin.ext ?_
  match q with
  | ⟨0, _⟩ => show (i 0 : ℕ) / 8192 = B; omega
  | ⟨1, _⟩ => show (i 1 : ℕ) / 128 = h; omega
  | ⟨2, _⟩ => show (i 0 : ℕ) / 256 % 32 = n; omega
  | ⟨3, _⟩ => show (i 0 : ℕ) % 256 = s; omega
  | ⟨4, _⟩ => show (i 1 : ℕ) % 128 = e; omega

theorem nat_word (n : Fin 32) : FloatOps.sitofp (F := Ideal) FTy.f32 (BitVec.ofNat 32 n) = (((n : ℕ) : ℝ) : EReal) := by
  have h : (BitVec.ofNat 32 (n : ℕ)).toInt = ((n : ℕ) : ℤ) := by
    revert n; decide
  show (((BitVec.ofNat 32 (n : ℕ)).toInt : ℝ) : EReal) = _
  rw [h]; norm_num

theorem dec_at (h : Fin 8) (n x : Fin 32) : DEC (ix3 h n x) = if (x : ℕ) < n
    then Ideal.exp ((((n - x - 1 : ℕ) : ℝ) : EReal) * (Ideal.ofBits FTy.f32 1132462080#32 * LGA (ix1 h))) else 0 := by
  pointwise [DEC, PAST]
  have e : FloatOps.sitofp (F := Ideal) FTy.f32 (BitVec.ofNat 32 (n : ℕ)) - FloatOps.sitofp (F := Ideal) FTy.f32 (BitVec.ofNat 32 (x : ℕ)) - 1
      = ((((n : ℕ) : ℝ) - ((x : ℕ) : ℝ) - 1 : ℝ) : EReal) := by
    rw [nat_word, nat_word, EReal.coe_sub, EReal.coe_sub, EReal.coe_one]
  rw [e]
  rcases lt_or_ge (x : ℕ) (n : ℕ) with hl | hl
  · have hr : (((n - x - 1 : ℕ) : ℝ)) = ((n : ℕ) : ℝ) - ((x : ℕ) : ℝ) - 1 := by
      rw [Nat.cast_sub (by omega), Nat.cast_sub (by omega)]; norm_num
    have hp : (0 : EReal) ≤ ((((n : ℕ) : ℝ) - ((x : ℕ) : ℝ) - 1 : ℝ) : EReal) := by
      rw [← hr]; exact_mod_cast Nat.zero_le _
    rw [if_pos hp, if_pos hl, max_eq_left hp, hr]
  · have hp : ¬ (0 : EReal) ≤ ((((n : ℕ) : ℝ) - ((x : ℕ) : ℝ) - 1 : ℝ) : EReal) := by
      intro h0
      have h1 : (0 : ℝ) ≤ ((n : ℕ) : ℝ) - ((x : ℕ) : ℝ) - 1 := by exact_mod_cast h0
      have h2 : ((n : ℕ) : ℝ) ≤ ((x : ℕ) : ℝ) := by exact_mod_cast hl
      linarith
    rw [if_neg hp, if_neg (by omega)]

theorem exp_nonneg (x : EReal) : 0 ≤ Ideal.exp x := by
  induction x with
  | bot => simp
  | top => simp
  | coe r => rw [Ideal.exp_coe]; exact_mod_cast (Real.exp_pos r).le

theorem lg_ne_top (h : Fin 8) : LGA (ix1 h) ≠ ⊤ := by
  pointwise [LGA]
  generalize (Ideal.ofBits FTy.f32 1060205080#32 * (Ideal.ofBits FTy.f32 3231711232#32 - FloatOps.sitofp (F := Ideal) FTy.f32 (BitVec.ofNat 32 (h : ℕ))) : EReal) = y
  show Ideal.log (1 + -Ideal.exp y) ≠ ⊤
  induction y using EReal.rec with
  | bot =>
    rw [Ideal.exp_bot, neg_zero, add_zero, ← EReal.coe_one, Ideal.log_coe]
    split <;> simp
  | top =>
    rw [Ideal.exp_top, EReal.neg_top, EReal.add_bot]; simp
  | coe r =>
    rw [Ideal.exp_coe, ← EReal.coe_one, ← EReal.coe_neg, ← EReal.coe_add, Ideal.log_coe]
    split <;> simp

theorem chunk_word : Ideal.ofBits FTy.f32 1132462080#32 = ((256 : ℝ) : EReal) := by
  simp [Ideal.ofBits, Ideal.ieee]
  rw [← EReal.coe_mul]; norm_num

theorem rate_ne_top (h : Fin 8) : Ideal.ofBits FTy.f32 1132462080#32 * LGA (ix1 h) ≠ ⊤ := by
  rw [chunk_word]
  have := lg_ne_top h
  generalize LGA (ix1 h) = y at *
  induction y using EReal.rec with
  | bot => rw [EReal.coe_mul_bot_of_pos (by norm_num)]; simp
  | top => exact absurd rfl this
  | coe r => rw [← EReal.coe_mul]; exact EReal.coe_ne_top _

theorem cd_ne_top (h : Fin 8) : CD h ≠ ⊤ := by
  have := rate_ne_top h
  unfold CD
  generalize (Ideal.ofBits FTy.f32 1132462080#32 * LGA (ix1 h) : EReal) = y at *
  induction y using EReal.rec with
  | bot => simp
  | top => exact absurd rfl this
  | coe r => simp

theorem exp_step (k : ℕ) (y : EReal) (hy : y ≠ ⊤) :
    Ideal.exp ((((k + 1 : ℕ) : ℝ) : EReal) * y) = Ideal.exp (((k : ℝ) : EReal) * y) * Ideal.exp y := by
  induction y using EReal.rec with
  | bot =>
    rw [EReal.coe_mul_bot_of_pos (by positivity), Ideal.exp_bot, mul_zero]
  | top => exact absurd rfl hy
  | coe r =>
    rw [← EReal.coe_mul, ← EReal.coe_mul, Ideal.exp_coe, Ideal.exp_coe, Ideal.exp_coe, ← EReal.coe_mul, ← Real.exp_add]
    push_cast; ring_nf

theorem dec_step (h : Fin 8) (n n' x : Fin 32) (hn : (n' : ℕ) = n + 1) :
    DEC (ix3 h n' x) = if x = n then 1 else DEC (ix3 h n x) * CD h := by
  rw [dec_at, dec_at]
  rcases lt_trichotomy (x : ℕ) (n : ℕ) with hl | hl | hl
  · rw [if_pos (show (x : ℕ) < n' by omega), if_pos hl, if_neg (fun e => by rw [e] at hl; omega)]
    rw [show (n' - x - 1 : ℕ) = (n - x - 1 : ℕ) + 1 by omega]
    exact exp_step _ _ (rate_ne_top h)
  · rw [if_pos (show (x : ℕ) < n' by omega), if_pos (Fin.ext hl), show (n' - x - 1 : ℕ) = 0 by omega]
    rw [Nat.cast_zero, EReal.coe_zero, zero_mul, ← EReal.coe_zero, Ideal.exp_coe, Real.exp_zero, EReal.coe_one]
  · rw [if_neg (show ¬ (x : ℕ) < n' by omega), if_neg (show ¬ (x : ℕ) < n by omega), if_neg (fun e => by rw [e] at hl; omega), zero_mul]

theorem sum_mul_right {n : ℕ} (f : Fin n → EReal) (c : EReal) (h0 : 0 ≤ c) (ht : c ≠ ⊤) : (∑ x, f x) * c = ∑ x, f x * c := by
  induction n with
  | zero => simp
  | succ n ih => rw [Fin.sum_univ_succ, Fin.sum_univ_succ, EReal.right_distrib_of_nonneg_of_ne_top h0 ht, ih]

theorem prev_zero (kv) (b : Fin 4) (h : Fin 8) (n : Fin 32) (hn : (n : ℕ) = 0) (d e : Fin 128) : PREV kv (ix5 b h n d e) = 0 := by
  rw [prev_at]
  refine Finset.sum_eq_zero fun x _ => ?_
  rw [dec_at, if_neg (by omega), zero_mul]

theorem prev_succ (kv) (b : Fin 4) (h : Fin 8) (n n' : Fin 32) (hn : (n' : ℕ) = n + 1) (d e : Fin 128) :
    PREV kv (ix5 b h n' d e) = PREV kv (ix5 b h n d e) * CD h + kv (ix5 b h n d e) := by
  rw [prev_at, prev_at, sum_mul_right _ (CD h) (exp_nonneg _) (cd_ne_top h)]
  rw [← Finset.sum_erase_add _ _ (Finset.mem_univ n), dec_step h n n' n hn, if_pos rfl, one_mul]
  refine congrArg (fun p => p + kv (ix5 b h n d e)) ?_
  rw [← Finset.sum_erase_add (Finset.univ : Finset (Fin 32)) (fun x => DEC (ix3 h n x) * kv (ix5 b h x d e) * CD h) (Finset.mem_univ n)]
  rw [dec_at h n n, if_neg (lt_irrefl _), zero_mul, zero_mul, add_zero]
  refine Finset.sum_congr rfl fun x hx => ?_
  rw [dec_step h n n' x hn, if_neg (Finset.ne_of_mem_erase hx), mul_assoc, mul_comm (CD h), ← mul_assoc]

end Cert.Reference10Ideal.Ret

end
-- ==== Proof.RetTab.lean ====
module

public import proofs.«01_k».proof.Defs
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.RetRef
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Ret
open Cert.Kernel10Ideal Cert.Kernel10Ideal.Gen
open Cert.Reference10Ideal.Ret (QA KA VA LGA INTRA KDEC QDEC KV PREV RO REF CD)

variable (m : (ℓ : Loc nD τ sig) → Buf (Elt Ideal) ℓ)
theorem intra_at (c : Dev nD) (i : S8x256x256.Idx) : V m c main_v26 i = INTRA i := by
  simp only [V, hostOps0, hostOps0_1, hostOps0_2, List.flatten_cons, List.flatten_nil, List.append_nil, List.cons_append, List.nil_append]
  entry_read
  rfl

theorem kdec_at (c : Dev nD) (i : S8x256x128.Idx) : V m c main_v47 i = KDEC (ix2 (i 0) (i 1)) := by
  simp only [V, hostOps0, hostOps0_1, hostOps0_2, List.flatten_cons, List.flatten_nil, List.append_nil, List.cons_append, List.nil_append]
  entry_read
  pointwise [KDEC, LGA]

theorem qdec_at (c : Dev nD) (i : S8x256x128.Idx) : V m c main_v49 i = QDEC (ix2 (i 0) (i 1)) := by
  simp only [V, hostOps0, hostOps0_1, hostOps0_2, List.flatten_cons, List.flatten_nil, List.append_nil, List.cons_append, List.nil_append]
  entry_read
  pointwise [QDEC, LGA]

theorem cdec_at (c : Dev nD) (i : S8x128x128.Idx) : V m c main_v51 i = CD (i 0) := by
  simp only [V, hostOps0, hostOps0_1, hostOps0_2, List.flatten_cons, List.flatten_nil, List.append_nil, List.cons_append, List.nil_append]
  entry_read
  pointwise [CD, LGA]

theorem scale_at (c : Dev nD) (i : S1x1024.Idx) : V m c main_v52 i = m ((c : Thread nD τ).loc main_arg3) i := by
  simp only [V, hostOps0, hostOps0_1, hostOps0_2, List.flatten_cons, List.flatten_nil, List.append_nil, List.cons_append, List.nil_append]
  entry_read
  pointwise

theorem shift_at (c : Dev nD) (i : S1x1024.Idx) : V m c main_v53 i = m ((c : Thread nD τ).loc main_arg4) i := by
  simp only [V, hostOps0, hostOps0_1, hostOps0_2, List.flatten_cons, List.flatten_nil, List.append_nil, List.cons_append, List.nil_append]
  entry_read
  pointwise

end Cert.Kernel10Ideal.Ret

end
-- ==== Proof.RetKer.lean ====
module

public import proofs.«01_k».proof.Defs
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.RetRef
public import proofs.«01_k».proof.Proof.RetTab
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Ret
open Cert.Kernel10Ideal Cert.Kernel10Ideal.Gen
open Cert.Reference10Ideal.Ret (QA KA VA LGA INTRA KDEC QDEC KV PREV RO REF CD GNS kv_at ro_at prev_succ prev_zero qa_at ka_at va_at out_at)

variable (m : (ℓ : Loc nD τ sig) → Buf (Elt Ideal) ℓ)

theorem idx : ∀ t : Fin cfg0.N, win0_0.index t = ![t.val / 64 * 8 + t.val % 8, t.val / 8 % 8]
    ∧ win0_1.index t = ![t.val / 64 * 8 + t.val % 8, 8 + t.val / 8 % 8]
    ∧ win0_2.index t = ![t.val / 64 * 8 + t.val % 8, t.val / 8 % 8] ∧ win0_3.index t = ![t.val / 64 * 8 + t.val % 8, t.val / 8 % 8]
    ∧ win0_4.index t = ![t.val / 8 % 8, 0, 0] ∧ win0_5.index t = ![t.val / 8 % 8, 0, 0]
    ∧ win0_6.index t = ![t.val / 8 % 8, 0, 0] ∧ win0_7.index t = ![t.val / 8 % 8, 0, 0]
    ∧ win0_8.index t = ![0, t.val / 8 % 8] ∧ win0_9.index t = ![0, t.val / 8 % 8]
    ∧ win0_10.index t = ![t.val / 64 * 8 + t.val % 8, t.val / 8 % 8] :=
  (by decide +kernel : ∀ t : Fin grid0.N, _)

theorem points (t : Fin cfg0.N) : t.val < 256 := lt_of_lt_of_eq t.isLt N_0

/-- The sequence of a grid point. -/
def B (t : Fin cfg0.N) : Fin 4 := ⟨t.val / 64, by have := points t; omega⟩

/-- The head of a grid point. -/
def H (t : Fin cfg0.N) : Fin 8 := ⟨t.val / 8 % 8, by omega⟩

/-- A chunk of a grid point. -/
def C (t : Fin cfg0.N) (k : ℕ) (hk : k < 4) : Fin 32 := ⟨t.val % 8 * 4 + k, by omega⟩

theorem ld_at {e : EltTy} (x : S1024x128.Idx → Elt Ideal e) (k : ℕ) (hk : k < 4) (inb) (i : Fin 256) (d : Fin 128) :
    View.ld x (Rect.unit (s := S1024x128) ![256 * k, 0] ![256, 128] inb) (ix2 i d) = x (ix2 (⟨256 * k + i, by omega⟩ : Fin 1024) d) := by
  refine congrArg x ?_
  funext a
  refine Fin.ext ?_
  match a with
  | ⟨0, _⟩ => show 256 * k + 1 * (i : ℕ) = 256 * k + i; omega
  | ⟨1, _⟩ => show 0 + 1 * (d : ℕ) = d; omega

theorem q_blk (c : Dev nD) (t : Fin cfg0.N) (r : Fin 1024) (e : Fin 128) (j : S32768x2048.Idx)
    (h0 : (j 0 : ℕ) = (t.val / 64 * 8 + t.val % 8) * 1024 + r) (h1 : (j 1 : ℕ) = t.val / 8 % 8 * 128 + e) :
    iblk m c 0 t (ix2 r e) = m ((c : Thread nD τ).loc main_arg0) j := by
  blk_point [iblk, V_main_arg0, idx t]

theorem k_blk (c : Dev nD) (t : Fin cfg0.N) (r : Fin 1024) (e : Fin 128) (j : S32768x2048.Idx)
    (h0 : (j 0 : ℕ) = (t.val / 64 * 8 + t.val % 8) * 1024 + r) (h1 : (j 1 : ℕ) = (8 + t.val / 8 % 8) * 128 + e) :
    iblk m c 1 t (ix2 r e) = m ((c : Thread nD τ).loc main_arg0) j := by
  blk_point [iblk, V_main_arg0, idx t]

theorem v_blk (c : Dev nD) (t : Fin cfg0.N) (r : Fin 1024) (e : Fin 128) (j : S32768x4096.Idx)
    (h0 : (j 0 : ℕ) = (t.val / 64 * 8 + t.val % 8) * 1024 + r) (h1 : (j 1 : ℕ) = t.val / 8 % 8 * 128 + e) :
    iblk m c 2 t (ix2 r e) = m ((c : Thread nD τ).loc main_arg1) j := by
  blk_point [iblk, V_main_arg1, idx t]

theorem g_blk (c : Dev nD) (t : Fin cfg0.N) (r : Fin 1024) (e : Fin 128) (j : S32768x1024.Idx)
    (h0 : (j 0 : ℕ) = (t.val / 64 * 8 + t.val % 8) * 1024 + r) (h1 : (j 1 : ℕ) = t.val / 8 % 8 * 128 + e) :
    iblk m c 3 t (ix2 r e) = m ((c : Thread nD τ).loc main_arg2) j := by
  blk_point [iblk, V_main_arg2, idx t]

theorem intra_blk (c : Dev nD) (t : Fin cfg0.N) (i s : Fin 256) : iblk m c 4 t (ix3 0 i s) = INTRA (ix3 (H t) i s) := by
  refine Eq.trans (b := V m c main_v26 (ix3 (H t) i s)) ?_ (intra_at m c _)
  blk_point [iblk, idx t, H]

theorem kdec_blk (c : Dev nD) (t : Fin cfg0.N) (s : Fin 256) (d : Fin 128) : iblk m c 5 t (ix3 0 s d) = KDEC (ix2 (H t) s) := by
  refine Eq.trans (b := V m c main_v47 (ix3 (H t) s d)) ?_ (kdec_at m c _)
  blk_point [iblk, idx t, H]

theorem qdec_blk (c : Dev nD) (t : Fin cfg0.N) (s : Fin 256) (d : Fin 128) : iblk m c 6 t (ix3 0 s d) = QDEC (ix2 (H t) s) := by
  refine Eq.trans (b := V m c main_v49 (ix3 (H t) s d)) ?_ (qdec_at m c _)
  blk_point [iblk, idx t, H]

theorem cdec_blk (c : Dev nD) (t : Fin cfg0.N) (d e : Fin 128) : iblk m c 7 t (ix3 0 d e) = CD (H t) := by
  refine Eq.trans (b := V m c main_v51 (ix3 (H t) d e)) ?_ (cdec_at m c _)
  blk_point [iblk, idx t, H]

theorem scale_blk (c : Dev nD) (t : Fin cfg0.N) (e : Fin 128) (j : S1x1024.Idx) (h1 : (j 1 : ℕ) = t.val / 8 % 8 * 128 + e) :
    iblk m c 8 t (ix2 0 e) = m ((c : Thread nD τ).loc main_arg3) j := by
  refine Eq.trans (b := V m c main_v52 j) ?_ (scale_at m c _)
  have h0 : (j 0 : ℕ) = 0 := by have : (j 0 : ℕ) < 1 := (j 0).isLt; omega
  blk_point [iblk, idx t]

theorem shift_blk (c : Dev nD) (t : Fin cfg0.N) (e : Fin 128) (j : S1x1024.Idx) (h1 : (j 1 : ℕ) = t.val / 8 % 8 * 128 + e) :
    iblk m c 9 t (ix2 0 e) = m ((c : Thread nD τ).loc main_arg4) j := by
  refine Eq.trans (b := V m c main_v53 j) ?_ (shift_at m c _)
  have h0 : (j 0 : ℕ) = 0 := by have : (j 0 : ℕ) < 1 := (j 0).isLt; omega
  blk_point [iblk, idx t]

theorem q_ld (c : Dev nD) (t : Fin cfg0.N) (k : ℕ) (hk : k < 4) (inb) (i : Fin 256) (d : Fin 128) :
    View.ld (iblk m c 0 t) (Rect.unit (s := S1024x128) ![256 * k, 0] ![256, 128] inb) (ix2 i d)
      = QA (m ((c : Thread nD τ).loc main_arg0)) (ix5 (B t) (H t) (C t k hk) i d) := by
  have ht := points t
  refine (ld_at _ k hk inb i d).trans ?_
  have hj0 : t.val / 64 * 8192 + (t.val % 8 * 4 + k) * 256 + i < 32768 := by omega
  have hj1 : t.val / 8 % 8 * 128 + d < 2048 := by omega
  refine (q_blk m c t _ d (ix2 ⟨_, hj0⟩ ⟨_, hj1⟩) ?_ rfl).trans (qa_at _ (B t) (H t) (C t k hk) i d _ rfl rfl).symm
  show t.val / 64 * 8192 + (t.val % 8 * 4 + k) * 256 + i = (t.val / 64 * 8 + t.val % 8) * 1024 + (256 * k + i)
  omega

theorem k_ld (c : Dev nD) (t : Fin cfg0.N) (k : ℕ) (hk : k < 4) (inb) (i : Fin 256) (d : Fin 128) :
    View.ld (iblk m c 1 t) (Rect.unit (s := S1024x128) ![256 * k, 0] ![256, 128] inb) (ix2 i d)
      = KA (m ((c : Thread nD τ).loc main_arg0)) (ix5 (B t) (H t) (C t k hk) i d) := by
  have ht := points t
  refine (ld_at _ k hk inb i d).trans ?_
  have hj0 : t.val / 64 * 8192 + (t.val % 8 * 4 + k) * 256 + i < 32768 := by omega
  have hj1 : 1024 + (t.val / 8 % 8 * 128 + d) < 2048 := by omega
  refine (k_blk m c t _ d (ix2 ⟨_, hj0⟩ ⟨_, hj1⟩) ?_ ?_).trans (ka_at _ (B t) (H t) (C t k hk) i d _ rfl rfl).symm
  · show t.val / 64 * 8192 + (t.val % 8 * 4 + k) * 256 + i = (t.val / 64 * 8 + t.val % 8) * 1024 + (256 * k + i)
    omega
  · show 1024 + (t.val / 8 % 8 * 128 + d) = (8 + t.val / 8 % 8) * 128 + (d : ℕ)
    omega

theorem v_ld (c : Dev nD) (t : Fin cfg0.N) (k : ℕ) (hk : k < 4) (inb) (i : Fin 256) (d : Fin 128) :
    View.ld (iblk m c 2 t) (Rect.unit (s := S1024x128) ![256 * k, 0] ![256, 128] inb) (ix2 i d)
      = VA (m ((c : Thread nD τ).loc main_arg1)) (ix5 (B t) (H t) (C t k hk) i d) := by
  have ht := points t
  refine (ld_at _ k hk inb i d).trans ?_
  have hj0 : t.val / 64 * 8192 + (t.val % 8 * 4 + k) * 256 + i < 32768 := by omega
  have hj1 : t.val / 8 % 8 * 128 + d < 4096 := by omega
  refine (v_blk m c t _ d (ix2 ⟨_, hj0⟩ ⟨_, hj1⟩) ?_ rfl).trans (va_at _ (B t) (H t) (C t k hk) i d _ rfl rfl).symm
  show t.val / 64 * 8192 + (t.val % 8 * 4 + k) * 256 + i = (t.val / 64 * 8 + t.val % 8) * 1024 + (256 * k + i)
  omega

/-- The state after a chunk, from the one before it. -/
theorem step (v6 v10 S k v) (kk vv) (b : Fin 4) (h : Fin 8) (n : Fin 32) (h6 : ∀ s d, v6 (ix2 s d) = KDEC (ix2 h s))
    (h10 : ∀ d e, v10 (ix2 d e) = CD h) (hk : ∀ s d, k (ix2 s d) = kk (ix5 b h n s d)) (hv : ∀ s d, v (ix2 s d) = vv (ix5 b h n s d))
    (hS : ∀ d e, S (ix2 d e) = PREV (KV kk vv) (ix5 b h n d e)) (d e : Fin 128) :
    k0_pay10 (F := Ideal) v6 v10 S k v (ix2 d e) = PREV (KV kk vv) (ix5 b h n d e) * CD h + KV kk vv (ix5 b h n d e) := by
  pointwise [k0_pay10]
  rw [kv_at]
  simp only [h6, h10, hk, hv, hS]

/-- The output of a chunk before it is normalised. -/
theorem raw (b4 b6 S q k v) (qq kk vv) (b : Fin 4) (h : Fin 8) (n : Fin 32) (h4 : ∀ i s, b4 (ix3 0 i s) = INTRA (ix3 h i s))
    (h6 : ∀ i e, b6 (ix3 0 i e) = QDEC (ix2 h i)) (hq : ∀ s d, q (ix2 s d) = qq (ix5 b h n s d))
    (hk : ∀ s d, k (ix2 s d) = kk (ix5 b h n s d)) (hv : ∀ s d, v (ix2 s d) = vv (ix5 b h n s d))
    (hS : ∀ d e, S (ix2 d e) = PREV (KV kk vv) (ix5 b h n d e)) (i : Fin 256) (e : Fin 128) :
    k0_pay9 (F := Ideal) b4 b6 S q k v (ix2 i e) = RO qq kk vv (ix5 b h n i e) := by
  pointwise [k0_pay9, k0_pay3, k0_pay5]
  rw [ro_at]
  simp only [h4, h6, hq, hk, hv, hS]

/-- The normalised and gated output of a chunk. -/
theorem gated (b8 b9 ro g) (i : Fin 256) (e : Fin 128) :
    k0_pay11 (F := Ideal) (k0_pay7 b8) (k0_pay8 b9) ro g (ix2 i e)
      = g (ix2 i e) * Ideal.div 1 (1 + Ideal.exp (-g (ix2 i e))) * (GNS (fun x => ro (ix2 i x)) e * b8 (ix2 0 e) + b9 (ix2 0 e)) := by
  pointwise [k0_pay11, k0_pay7, k0_pay8, GNS, Ideal.logistic]

theorem pay15_eq (b4 b5 b6 b7 a b S q k v k0 v0 g) :
    k0_pay15 (F := Ideal) (k0_pay5 b6) a b q (k0_pay12 (k0_pay3 b4) q k v) (k0_pay13 (k0_pay4 b5) (k0_pay6 b7) S k0 v0)
      (constant S256x128 FTy.f32 0#32) g = k0_pay11 a b (k0_pay9 b4 b6 (k0_pay10 (k0_pay4 b5) (k0_pay6 b7) S k0 v0) q k v) g := rfl

theorem pay18_eq (b4 b6 a b S q k v g) :
    k0_pay18 (F := Ideal) (k0_pay5 b6) a b S q v (k0_pay16 (k0_pay3 b4) q k)
      (constant S256x128 FTy.f32 0#32) g = k0_pay11 a b (k0_pay9 b4 b6 S q k v) g := rfl

theorem pay21_eq (b4 b6 a b S q k v g) :
    k0_pay21 (F := Ideal) (k0_pay3 b4) (k0_pay5 b6) a b S q v (k0_pay19 q k) g
      = k0_pay11 a b (k0_pay9 b4 b6 S q k v) g := rfl

theorem pay14_eq (a b S k v) : k0_pay14 (F := Ideal) a b S k v = k0_pay10 a b S k v := rfl

theorem pay17_eq (a b S k v) : k0_pay17 (F := Ideal) a b S k v = k0_pay10 a b S k v := rfl

theorem pay20_eq (a b S k v) : k0_pay20 (F := Ideal) a b S k v = k0_pay10 a b S k v := rfl

theorem pay1_at (S) (d e : Fin 128) : k0_pay1 (F := Ideal) S (ix2 d e) = S (ix2 d e) := by
  pointwise [k0_pay1]

theorem pay2_at (d e : Fin 128) : k0_pay2 (F := Ideal) (ix2 d e) = 0 := by
  pointwise [k0_pay2]

theorem pay4_at (b5) (s : Fin 256) (d : Fin 128) : k0_pay4 (F := Ideal) b5 (ix2 s d) = b5 (ix3 0 s d) := by
  pointwise [k0_pay4]

theorem pay6_at (b7) (d e : Fin 128) : k0_pay6 (F := Ideal) b7 (ix2 d e) = b7 (ix3 0 d e) := by
  pointwise [k0_pay6]

end Cert.Kernel10Ideal.Ret

end
-- ==== Proof.RetOut.lean ====
module

public import proofs.«01_k».proof.Defs
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.RetRef
public import proofs.«01_k».proof.Proof.RetTab
public import proofs.«01_k».proof.Proof.RetKer
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Ret
open Cert.Kernel10Ideal Cert.Kernel10Ideal.Gen
open Cert.Reference10Ideal.Ret (QA KA VA LGA INTRA KDEC QDEC KV PREV RO REF CD GNS kv_at ro_at prev_succ prev_zero qa_at ka_at va_at out_at)

variable (m : (ℓ : Loc nD τ sig) → Buf (Elt Ideal) ℓ)

theorem g_ld (c : Dev nD) (t : Fin cfg0.N) (k : ℕ) (hk : k < 4) (inb) (i : Fin 256) (e : Fin 128) (j : S32768x1024.Idx)
    (h0 : (j 0 : ℕ) = (t.val / 64 * 8 + t.val % 8) * 1024 + (256 * k + i)) (h1 : (j 1 : ℕ) = t.val / 8 % 8 * 128 + e) :
    View.ld (iblk m c 3 t) (Rect.unit (s := S1024x128) ![256 * k, 0] ![256, 128] inb) (ix2 i e)
      = m ((c : Thread nD τ).loc main_arg2) j :=
  (ld_at _ k hk inb i e).trans (g_blk m c t _ e j h0 h1)

/-- What the chunks of the program's keys and values add to the state. -/
def KVm (c : Dev nD) := KV (KA (m ((c : Thread nD τ).loc main_arg0))) (VA (m ((c : Thread nD τ).loc main_arg1)))

theorem state (c : Dev nD) (t : Fin cfg0.N) (k : ℕ) (hk : k < 4) (inb inb') (S)
    (hS : ∀ d e, S (ix2 d e) = PREV (KVm m c) (ix5 (B t) (H t) (C t k hk) d e)) (d e : Fin 128) :
    k0_pay10 (F := Ideal) (k0_pay4 (iblk m c 5 t)) (k0_pay6 (iblk m c 7 t)) S
        (View.ld (iblk m c 1 t) (Rect.unit (s := S1024x128) ![256 * k, 0] ![256, 128] inb))
        (View.ld (iblk m c 2 t) (Rect.unit (s := S1024x128) ![256 * k, 0] ![256, 128] inb')) (ix2 d e)
      = PREV (KVm m c) (ix5 (B t) (H t) (C t k hk) d e) * CD (H t) + KVm m c (ix5 (B t) (H t) (C t k hk) d e) :=
  step _ _ _ _ _ (KA (m ((c : Thread nD τ).loc main_arg0))) (VA (m ((c : Thread nD τ).loc main_arg1))) (B t) (H t) (C t k hk)
    (fun s d => (pay4_at _ s d).trans (kdec_blk m c t s d)) (fun d e => (pay6_at _ d e).trans (cdec_blk m c t d e))
    (fun s d => k_ld m c t k hk inb s d) (fun s d => v_ld m c t k hk inb' s d) hS d e

theorem next (c : Dev nD) (t : Fin cfg0.N) (k : ℕ) (hk : k < 3) (inb inb') (S)
    (hS : ∀ d e, S (ix2 d e) = PREV (KVm m c) (ix5 (B t) (H t) (C t k (by omega)) d e)) (d e : Fin 128) :
    k0_pay10 (F := Ideal) (k0_pay4 (iblk m c 5 t)) (k0_pay6 (iblk m c 7 t)) S
        (View.ld (iblk m c 1 t) (Rect.unit (s := S1024x128) ![256 * k, 0] ![256, 128] inb))
        (View.ld (iblk m c 2 t) (Rect.unit (s := S1024x128) ![256 * k, 0] ![256, 128] inb')) (ix2 d e)
      = PREV (KVm m c) (ix5 (B t) (H t) (C t (k + 1) (by omega)) d e) :=
  (state m c t k (by omega) inb inb' S hS d e).trans (prev_succ _ (B t) (H t) (C t k (by omega)) (C t (k + 1) (by omega)) rfl d e).symm

theorem piece (c : Dev nD) (t : Fin cfg0.N) (k : ℕ) (hk : k < 4) (inb0 inb1 inb2 inb3) (S)
    (hS : ∀ d e, S (ix2 d e) = PREV (KVm m c) (ix5 (B t) (H t) (C t k hk) d e)) (i : Fin 256) (e : Fin 128) (j : S32768x1024.Idx)
    (h0 : (j 0 : ℕ) = (t.val / 64 * 8 + t.val % 8) * 1024 + (256 * k + i)) (h1 : (j 1 : ℕ) = t.val / 8 % 8 * 128 + e) :
    k0_pay11 (F := Ideal) (k0_pay7 (iblk m c 8 t)) (k0_pay8 (iblk m c 9 t))
        (k0_pay9 (iblk m c 4 t) (iblk m c 6 t) S
          (View.ld (iblk m c 0 t) (Rect.unit (s := S1024x128) ![256 * k, 0] ![256, 128] inb0))
          (View.ld (iblk m c 1 t) (Rect.unit (s := S1024x128) ![256 * k, 0] ![256, 128] inb1))
          (View.ld (iblk m c 2 t) (Rect.unit (s := S1024x128) ![256 * k, 0] ![256, 128] inb2)))
        (View.ld (iblk m c 3 t) (Rect.unit (s := S1024x128) ![256 * k, 0] ![256, 128] inb3)) (ix2 i e)
      = REF (m ((c : Thread nD τ).loc main_arg0)) (m ((c : Thread nD τ).loc main_arg1)) (m ((c : Thread nD τ).loc main_arg2))
          (m ((c : Thread nD τ).loc main_arg3)) (m ((c : Thread nD τ).loc main_arg4)) j := by
  refine (gated _ _ _ _ i e).trans ?_
  refine Eq.trans ?_ (out_at _ _ _ _ j (B t) (H t) (C t k hk) i e ?_ h1).symm
  · rw [g_ld m c t k hk inb3 i e j h0 h1]
    rw [show (fun x => k0_pay9 (F := Ideal) (iblk m c 4 t) (iblk m c 6 t) S
          (View.ld (iblk m c 0 t) (Rect.unit (s := S1024x128) ![256 * k, 0] ![256, 128] inb0))
          (View.ld (iblk m c 1 t) (Rect.unit (s := S1024x128) ![256 * k, 0] ![256, 128] inb1))
          (View.ld (iblk m c 2 t) (Rect.unit (s := S1024x128) ![256 * k, 0] ![256, 128] inb2)) (ix2 i x))
        = fun x => RO (QA (m ((c : Thread nD τ).loc main_arg0))) (KA (m ((c : Thread nD τ).loc main_arg0)))
            (VA (m ((c : Thread nD τ).loc main_arg1))) (ix5 (B t) (H t) (C t k hk) i x) from
      funext fun x => raw _ _ _ _ _ _ _ _ _ (B t) (H t) (C t k hk) (fun i s => intra_blk m c t i s) (fun i e => qdec_blk m c t i e)
        (fun s d => q_ld m c t k hk inb0 s d) (fun s d => k_ld m c t k hk inb1 s d) (fun s d => v_ld m c t k hk inb2 s d) hS i x]
    rw [scale_blk m c t e (ix2 0 (j 1)) h1, shift_blk m c t e (ix2 0 (j 1)) h1]
  · rw [h0]
    show (t.val / 64 * 8 + t.val % 8) * 1024 + (256 * k + i) = t.val / 64 * 8192 + (t.val % 8 * 4 + k) * 256 + (i : ℕ)
    omega

theorem last (c : Dev nD) (t : Fin cfg0.N) (i0 i0' i1 i1' i2 i2' i3 i3') (S)
    (hS : ∀ d e, S (ix2 d e) = PREV (KVm m c) (ix5 (B t) (H t) (C t 0 (by omega)) d e)) (d e : Fin 128) :
    k0_pay1 (k0_pay20 (F := Ideal) (k0_pay4 (iblk m c 5 t)) (k0_pay6 (iblk m c 7 t))
        (k0_pay17 (k0_pay4 (iblk m c 5 t)) (k0_pay6 (iblk m c 7 t))
          (k0_pay14 (k0_pay4 (iblk m c 5 t)) (k0_pay6 (iblk m c 7 t))
            (k0_pay10 (k0_pay4 (iblk m c 5 t)) (k0_pay6 (iblk m c 7 t)) S
              (View.ld (iblk m c 1 t) (Rect.unit (s := S1024x128) ![0, 0] ![256, 128] i0))
              (View.ld (iblk m c 2 t) (Rect.unit (s := S1024x128) ![0, 0] ![256, 128] i0')))
            (View.ld (iblk m c 1 t) (Rect.unit (s := S1024x128) ![256, 0] ![256, 128] i1))
            (View.ld (iblk m c 2 t) (Rect.unit (s := S1024x128) ![256, 0] ![256, 128] i1')))
          (View.ld (iblk m c 1 t) (Rect.unit (s := S1024x128) ![512, 0] ![256, 128] i2))
          (View.ld (iblk m c 2 t) (Rect.unit (s := S1024x128) ![512, 0] ![256, 128] i2')))
        (View.ld (iblk m c 1 t) (Rect.unit (s := S1024x128) ![768, 0] ![256, 128] i3))
        (View.ld (iblk m c 2 t) (Rect.unit (s := S1024x128) ![768, 0] ![256, 128] i3'))) (ix2 d e)
      = PREV (KVm m c) (ix5 (B t) (H t) (C t 3 (by omega)) d e) * CD (H t) + KVm m c (ix5 (B t) (H t) (C t 3 (by omega)) d e) := by
  rw [pay1_at, pay20_eq, pay17_eq, pay14_eq]
  exact state m c t 3 (by omega) i3 i3' _ (fun d e => next m c t 2 (by omega) i2 i2' _ (fun d e => next m c t 1 (by omega) i1 i1' _
    (fun d e => next m c t 0 (by omega) i0 i0' _ hS d e) d e) d e) d e

/-- The state that a grid point leaves. -/
theorem scratch (c : Dev nD) : ∀ (n : ℕ) (hn : n < cfg0.N) (d e : Fin 128), (outsAt0 m c n hn).2 (ix2 d e)
    = PREV (KVm m c) (ix5 (B ⟨n, hn⟩) (H ⟨n, hn⟩) (C ⟨n, hn⟩ 3 (by omega)) d e) * CD (H ⟨n, hn⟩)
      + KVm m c (ix5 (B ⟨n, hn⟩) (H ⟨n, hn⟩) (C ⟨n, hn⟩ 3 (by omega)) d e) := by
  intro n
  induction n with
  | zero =>
    intro hn d e
    have h := outsAt0_A m c ⟨0, hn⟩ (show 0 % 8 = 0 by decide)
    simp only at h
    rw [h]; frame_out
    exact last m c ⟨0, hn⟩ _ _ _ _ _ _ _ _ _ (fun d e => (pay2_at d e).trans (prev_zero _ _ _ _ rfl d e).symm) d e
  | succ n ih =>
    intro hn d e
    by_cases h8 : (n + 1) % 8 = 0
    · have h := outsAt0_A m c ⟨n + 1, hn⟩ h8
      simp only at h
      rw [h]; frame_out
      exact last m c ⟨n + 1, hn⟩ _ _ _ _ _ _ _ _ _ (fun d e => (pay2_at d e).trans
        (prev_zero _ _ _ _ (show (n + 1) % 8 * 4 + 0 = 0 by omega) d e).symm) d e
    · have h := outsAt0_B m c ⟨n + 1, hn⟩ h8
      simp only at h
      rw [h]; frame_out
      refine last m c ⟨n + 1, hn⟩ _ _ _ _ _ _ _ _ _ (fun d e => ?_) d e
      refine (congrFun ((Memref.isWhole_whole cc0_scratch0).read_unread _) (ix2 d e)).trans ((ih (by omega) d e).trans ?_)
      rw [show B ⟨n, by omega⟩ = B ⟨n + 1, hn⟩ from Fin.ext (show n / 64 = (n + 1) / 64 by omega),
        show H ⟨n, by omega⟩ = H ⟨n + 1, hn⟩ from Fin.ext (show n / 8 % 8 = (n + 1) / 8 % 8 by omega)]
      exact (prev_succ _ _ _ _ _ (show (n + 1) % 8 * 4 + 0 = n % 8 * 4 + 3 + 1 by omega) d e).symm

theorem carry (c : Dev nD) (t : Fin cfg0.N) (h : ¬ t.val % 8 = 0) (hn : t.val - 1 < cfg0.N) (d e : Fin 128) :
    (outsAt0 m c (t.val - 1) hn).2 (ix2 d e) = PREV (KVm m c) (ix5 (B t) (H t) (C t 0 (by omega)) d e) := by
  refine (scratch m c _ hn d e).trans ?_
  rw [show B ⟨t.val - 1, hn⟩ = B t from Fin.ext (show (t.val - 1) / 64 = t.val / 64 by omega),
    show H ⟨t.val - 1, hn⟩ = H t from Fin.ext (show (t.val - 1) / 8 % 8 = t.val / 8 % 8 by omega)]
  exact (prev_succ _ _ _ _ _ (show t.val % 8 * 4 + 0 = (t.val - 1) % 8 * 4 + 3 + 1 by omega) d e).symm

theorem idx_eta {a b : ℕ} (x : (⟨2, ![a, b]⟩ : Shape).Idx) : x = ix2 (x 0) (x 1) := by
  funext q
  refine Fin.ext ?_
  match q with
  | ⟨0, _⟩ => rfl
  | ⟨1, _⟩ => rfl

theorem out_of (c : Dev nD) (t : Fin cfg0.N) (S)
    (hS : ∀ d e, S (ix2 d e) = PREV (KVm m c) (ix5 (B t) (H t) (C t 0 (by omega)) d e)) (y : S1024x128.Idx) (j : S32768x1024.Idx)
    (g0 : (j 0 : ℕ) = (t.val / 64 * 8 + t.val % 8) * 1024 + y 0) (g1 : (j 1 : ℕ) = t.val / 8 % 8 * 128 + y 1) :
    View.canon (Val := Elt Ideal) (e := .bf16)
      [⟨Rect.unit ![768, 0] ![256, 128] inb_S1024x128_S256x128_768_0,
          k0_pay21 (k0_pay3 (iblk m c 4 t)) (k0_pay5 (iblk m c 6 t)) (k0_pay7 (iblk m c 8 t)) (k0_pay8 (iblk m c 9 t))
            (k0_pay17 (k0_pay4 (iblk m c 5 t)) (k0_pay6 (iblk m c 7 t))
              (k0_pay14 (k0_pay4 (iblk m c 5 t)) (k0_pay6 (iblk m c 7 t))
                (k0_pay10 (k0_pay4 (iblk m c 5 t)) (k0_pay6 (iblk m c 7 t)) S
                  (View.ld (iblk m c 1 t) (Rect.unit ![0, 0] ![256, 128] inb_S1024x128_S256x128_0_0))
                  (View.ld (iblk m c 2 t) (Rect.unit ![0, 0] ![256, 128] inb_S1024x128_S256x128_0_0)))
                (View.ld (iblk m c 1 t) (Rect.unit ![256, 0] ![256, 128] inb_S1024x128_S256x128_256_0))
                (View.ld (iblk m c 2 t) (Rect.unit ![256, 0] ![256, 128] inb_S1024x128_S256x128_256_0)))
              (View.ld (iblk m c 1 t) (Rect.unit ![512, 0] ![256, 128] inb_S1024x128_S256x128_512_0))
              (View.ld (iblk m c 2 t) (Rect.unit ![512, 0] ![256, 128] inb_S1024x128_S256x128_512_0)))
            (View.ld (iblk m c 0 t) (Rect.unit ![768, 0] ![256, 128] inb_S1024x128_S256x128_768_0))
            (View.ld (iblk m c 2 t) (Rect.unit ![768, 0] ![256, 128] inb_S1024x128_S256x128_768_0))
            (k0_pay19 (View.ld (iblk m c 0 t) (Rect.unit ![768, 0] ![256, 128] inb_S1024x128_S256x128_768_0))
              (View.ld (iblk m c 1 t) (Rect.unit ![768, 0] ![256, 128] inb_S1024x128_S256x128_768_0)))
            (View.ld (iblk m c 3 t) (Rect.unit ![768, 0] ![256, 128] inb_S1024x128_S256x128_768_0))⟩,
        ⟨Rect.unit ![512, 0] ![256, 128] inb_S1024x128_S256x128_512_0,
          k0_pay18 (k0_pay5 (iblk m c 6 t)) (k0_pay7 (iblk m c 8 t)) (k0_pay8 (iblk m c 9 t))
            (k0_pay14 (k0_pay4 (iblk m c 5 t)) (k0_pay6 (iblk m c 7 t))
              (k0_pay10 (k0_pay4 (iblk m c 5 t)) (k0_pay6 (iblk m c 7 t)) S
                (View.ld (iblk m c 1 t) (Rect.unit ![0, 0] ![256, 128] inb_S1024x128_S256x128_0_0))
                (View.ld (iblk m c 2 t) (Rect.unit ![0, 0] ![256, 128] inb_S1024x128_S256x128_0_0)))
              (View.ld (iblk m c 1 t) (Rect.unit ![256, 0] ![256, 128] inb_S1024x128_S256x128_256_0))
              (View.ld (iblk m c 2 t) (Rect.unit ![256, 0] ![256, 128] inb_S1024x128_S256x128_256_0)))
            (View.ld (iblk m c 0 t) (Rect.unit ![512, 0] ![256, 128] inb_S1024x128_S256x128_512_0))
            (View.ld (iblk m c 2 t) (Rect.unit ![512, 0] ![256, 128] inb_S1024x128_S256x128_512_0))
            (k0_pay16 (k0_pay3 (iblk m c 4 t))
              (View.ld (iblk m c 0 t) (Rect.unit ![512, 0] ![256, 128] inb_S1024x128_S256x128_512_0))
              (View.ld (iblk m c 1 t) (Rect.unit ![512, 0] ![256, 128] inb_S1024x128_S256x128_512_0)))
            (constant S256x128 FTy.f32 0#32)
            (View.ld (iblk m c 3 t) (Rect.unit ![512, 0] ![256, 128] inb_S1024x128_S256x128_512_0))⟩,
        ⟨Rect.unit ![256, 0] ![256, 128] inb_S1024x128_S256x128_256_0,
          k0_pay15 (k0_pay5 (iblk m c 6 t)) (k0_pay7 (iblk m c 8 t)) (k0_pay8 (iblk m c 9 t))
            (View.ld (iblk m c 0 t) (Rect.unit ![256, 0] ![256, 128] inb_S1024x128_S256x128_256_0))
            (k0_pay12 (k0_pay3 (iblk m c 4 t))
              (View.ld (iblk m c 0 t) (Rect.unit ![256, 0] ![256, 128] inb_S1024x128_S256x128_256_0))
              (View.ld (iblk m c 1 t) (Rect.unit ![256, 0] ![256, 128] inb_S1024x128_S256x128_256_0))
              (View.ld (iblk m c 2 t) (Rect.unit ![256, 0] ![256, 128] inb_S1024x128_S256x128_256_0)))
            (k0_pay13 (k0_pay4 (iblk m c 5 t)) (k0_pay6 (iblk m c 7 t)) S
              (View.ld (iblk m c 1 t) (Rect.unit ![0, 0] ![256, 128] inb_S1024x128_S256x128_0_0))
              (View.ld (iblk m c 2 t) (Rect.unit ![0, 0] ![256, 128] inb_S1024x128_S256x128_0_0)))
            (constant S256x128 FTy.f32 0#32)
            (View.ld (iblk m c 3 t) (Rect.unit ![256, 0] ![256, 128] inb_S1024x128_S256x128_256_0))⟩,
        ⟨Rect.unit ![0, 0] ![256, 128] inb_S1024x128_S256x128_0_0,
          k0_pay11 (k0_pay7 (iblk m c 8 t)) (k0_pay8 (iblk m c 9 t))
            (k0_pay9 (iblk m c 4 t) (iblk m c 6 t) S
              (View.ld (iblk m c 0 t) (Rect.unit ![0, 0] ![256, 128] inb_S1024x128_S256x128_0_0))
              (View.ld (iblk m c 1 t) (Rect.unit ![0, 0] ![256, 128] inb_S1024x128_S256x128_0_0))
              (View.ld (iblk m c 2 t) (Rect.unit ![0, 0] ![256, 128] inb_S1024x128_S256x128_0_0)))
            (View.ld (iblk m c 3 t) (Rect.unit ![0, 0] ![256, 128] inb_S1024x128_S256x128_0_0))⟩] y
      = REF (m ((c : Thread nD τ).loc main_arg0)) (m ((c : Thread nD τ).loc main_arg1)) (m ((c : Thread nD τ).loc main_arg2))
          (m ((c : Thread nD τ).loc main_arg3)) (m ((c : Thread nD τ).loc main_arg4)) j := by
  have n0 := next m c t 0 (by omega) inb_S1024x128_S256x128_0_0 inb_S1024x128_S256x128_0_0 S hS
  have n1 := next m c t 1 (by omega) inb_S1024x128_S256x128_256_0 inb_S1024x128_S256x128_256_0 _ n0
  have n2 := next m c t 2 (by omega) inb_S1024x128_S256x128_512_0 inb_S1024x128_S256x128_512_0 _ n1
  canon_tiles x h
  · rw [idx_eta x, pay21_eq, pay17_eq, pay14_eq]
    exact piece m c t 3 (by omega) _ _ _ _ _ n2 (x 0) (x 1) j
      (g0.trans (congrArg (fun r => (t.val / 64 * 8 + t.val % 8) * 1024 + r) h0)) (g1.trans (congrArg (fun r => t.val / 8 % 8 * 128 + r) h1))
  · rw [idx_eta x, pay18_eq, pay14_eq]
    exact piece m c t 2 (by omega) _ _ _ _ _ n1 (x 0) (x 1) j
      (g0.trans (congrArg (fun r => (t.val / 64 * 8 + t.val % 8) * 1024 + r) h0)) (g1.trans (congrArg (fun r => t.val / 8 % 8 * 128 + r) h1))
  · rw [idx_eta x, pay15_eq]
    exact piece m c t 1 (by omega) _ _ _ _ _ n0 (x 0) (x 1) j
      (g0.trans (congrArg (fun r => (t.val / 64 * 8 + t.val % 8) * 1024 + r) h0)) (g1.trans (congrArg (fun r => t.val / 8 % 8 * 128 + r) h1))
  · rw [idx_eta x]
    exact piece m c t 0 (by omega) _ _ _ _ _ hS (x 0) (x 1) j
      (g0.trans (congrArg (fun r => (t.val / 64 * 8 + t.val % 8) * 1024 + r) (h0.trans (Nat.zero_add _).symm))) (g1.trans (congrArg (fun r => t.val / 8 % 8 * 128 + r) h1))

theorem core (c : Dev nD) (t : Fin cfg0.N) (y : S1024x128.Idx) (j : S32768x1024.Idx)
    (h0 : (j 0 : ℕ) = (t.val / 64 * 8 + t.val % 8) * 1024 + y 0) (h1 : (j 1 : ℕ) = t.val / 8 % 8 * 128 + y 1) :
    (outsAt0 m c t.val t.isLt).1 y
      = REF (m ((c : Thread nD τ).loc main_arg0)) (m ((c : Thread nD τ).loc main_arg1)) (m ((c : Thread nD τ).loc main_arg2))
          (m ((c : Thread nD τ).loc main_arg3)) (m ((c : Thread nD τ).loc main_arg4)) j := by
  by_cases h : t.val % 8 = 0
  · rw [outsAt0_A m c t h]; frame_out
    exact out_of m c t _ (fun d e => (pay2_at d e).trans (prev_zero _ _ _ _ (show t.val % 8 * 4 + 0 = 0 by omega) d e).symm) y j h0 h1
  · rw [outsAt0_B m c t h]; frame_out
    exact out_of m c t _ (fun d e => (congrFun ((Memref.isWhole_whole cc0_scratch0).read_unread _) (ix2 d e)).trans (carry m c t h _ d e)) y j h0 h1

theorem final (c : Dev nD) : (dats m 0 c).arrAt 10 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 10 _ (by decide +kernel) fun t _ y => ?_
  blk_simp
  rw [after0_10]
  exact core m c t y _ (by blk_simp [idx t]) (by blk_simp [idx t])

set_option maxHeartbeats 4000000 in
theorem algebraic : Cert.algebraic_Kernel10Ideal_Reference10Ideal := by
  pair_intro
  · run_from Cert.Kernel10Ideal.Gen.run_main m g
    · exact V_main_arg3 m c
    · exact V_main_arg4 m c
  · hlo_run
    refine Eq.trans (b := REF (m ((c : Thread nD τ).loc main_arg0)) (m ((c : Thread nD τ).loc main_arg1)) (m ((c : Thread nD τ).loc main_arg2))
        (m ((c : Thread nD τ).loc main_arg3)) (m ((c : Thread nD τ).loc main_arg4))) ?_ (final m c).symm
    rfl

end Cert.Kernel10Ideal.Ret

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import Idealize.ShloMosaic.Adequacy
public import Idealize.ShloMosaic.Init

public import proofs.«01_k».proof.Proof.Up
public import proofs.«01_k».proof.Proof.Down
public import proofs.«01_k».proof.Proof.RnnOut
public import proofs.«01_k».proof.Proof.AttnOut
public import proofs.«01_k».proof.Proof.RnnIn
public import proofs.«01_k».proof.Proof.AttnGate
public import proofs.«01_k».proof.Proof.AttnRest
public import proofs.«01_k».proof.Proof.Rotary
public import proofs.«01_k».proof.Proof.DownLast
public import proofs.«01_k».proof.Proof.RetOut

@[expose] public section

set_option maxRecDepth 16384

noncomputable section

namespace Cert.Proof

open Idealize.ShloMosaic Idealize.SL.Sem Cert.Kernel

theorem frame_Kernel : Cert.quiescent_Kernel := fun m g _ => Cert.Kernel.Gen.frame m g
theorem frame_KernelIdeal : Cert.quiescent_KernelIdeal := fun m g _ => Cert.KernelIdeal.Gen.frame m g
theorem frame_ReferenceIdeal : Cert.quiescent_ReferenceIdeal := by
  intro m g _
  hlo_run
  · exact fun _ => by simp
  · exact sem_eq_zero_of_no_sems (by decide) _

theorem frame_Kernel2 : Cert.quiescent_Kernel2 := fun m g _ => Cert.Kernel2.Gen.frame m g
theorem frame_Kernel2Ideal : Cert.quiescent_Kernel2Ideal := fun m g _ => Cert.Kernel2Ideal.Gen.frame m g
theorem frame_Reference2Ideal : Cert.quiescent_Reference2Ideal := by
  intro m g _
  hlo_run
  · exact fun _ => by simp
  · exact sem_eq_zero_of_no_sems (by decide) _

theorem frame_Kernel3 : Cert.quiescent_Kernel3 := fun m g _ => Cert.Kernel3.Gen.frame m g
theorem frame_Kernel3Ideal : Cert.quiescent_Kernel3Ideal := fun m g _ => Cert.Kernel3Ideal.Gen.frame m g
theorem frame_Reference3Ideal : Cert.quiescent_Reference3Ideal := by
  intro m g _
  hlo_run
  · exact fun _ => by simp
  · exact sem_eq_zero_of_no_sems (by decide) _

theorem frame_Kernel4 : Cert.quiescent_Kernel4 := fun m g _ => Cert.Kernel4.Gen.frame m g
theorem frame_Kernel4Ideal : Cert.quiescent_Kernel4Ideal := fun m g _ => Cert.Kernel4Ideal.Gen.frame m g
theorem frame_Reference4Ideal : Cert.quiescent_Reference4Ideal := by
  intro m g _
  hlo_run
  · exact fun _ => by simp
  · exact sem_eq_zero_of_no_sems (by decide) _

theorem frame_Kernel5 : Cert.quiescent_Kernel5 := fun m g _ => Cert.Kernel5.Gen.frame m g
theorem frame_Kernel5Ideal : Cert.quiescent_Kernel5Ideal := fun m g _ => Cert.Kernel5Ideal.Gen.frame m g
theorem frame_Reference5Ideal : Cert.quiescent_Reference5Ideal := by
  intro m g _
  hlo_run
  · exact fun _ => by simp
  · exact sem_eq_zero_of_no_sems (by decide) _

theorem frame_Kernel6 : Cert.quiescent_Kernel6 := fun m g _ => Cert.Kernel6.Gen.frame m g
theorem frame_Kernel6Ideal : Cert.quiescent_Kernel6Ideal := fun m g _ => Cert.Kernel6Ideal.Gen.frame m g
theorem frame_Reference6Ideal : Cert.quiescent_Reference6Ideal := by
  intro m g _
  hlo_run
  · exact fun _ => by simp
  · exact sem_eq_zero_of_no_sems (by decide) _

theorem frame_Kernel7 : Cert.quiescent_Kernel7 := fun m g _ => Cert.Kernel7.Gen.frame m g
theorem frame_Kernel7Ideal : Cert.quiescent_Kernel7Ideal := fun m g _ => Cert.Kernel7Ideal.Gen.frame m g
theorem frame_Reference7Ideal : Cert.quiescent_Reference7Ideal := by
  intro m g _
  hlo_run
  · exact fun _ => by simp
  · exact sem_eq_zero_of_no_sems (by decide) _

theorem frame_Kernel8 : Cert.quiescent_Kernel8 := fun m g _ => Cert.Kernel8.Gen.frame m g
theorem frame_Kernel8Ideal : Cert.quiescent_Kernel8Ideal := fun m g _ => Cert.Kernel8Ideal.Gen.frame m g
theorem frame_Reference8Ideal : Cert.quiescent_Reference8Ideal := by
  intro m g _
  hlo_run
  · exact fun _ => by simp
  · exact sem_eq_zero_of_no_sems (by decide) _
theorem frame_Kernel9 : Cert.quiescent_Kernel9 := fun m g _ => Cert.Kernel9.Gen.frame m g
theorem frame_Kernel9Ideal : Cert.quiescent_Kernel9Ideal := fun m g _ => Cert.Kernel9Ideal.Gen.frame m g
theorem frame_Reference9Ideal : Cert.quiescent_Reference9Ideal := by
  intro m g _
  hlo_run
  · exact fun _ => by simp
  · exact sem_eq_zero_of_no_sems (by decide) _

theorem frame_Kernel10 : Cert.quiescent_Kernel10 := fun m g _ => Cert.Kernel10.Gen.frame m g
theorem frame_Kernel10Ideal : Cert.quiescent_Kernel10Ideal := fun m g _ => Cert.Kernel10Ideal.Gen.frame m g

set_option maxHeartbeats 4000000 in
theorem frame_Reference10Ideal : Cert.quiescent_Reference10Ideal := by
  intro m g _
  hlo_run
  · exact fun _ => by simp
  · exact sem_eq_zero_of_no_sems (by decide) _

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  trivial, Cert.KernelIdeal.Up.algebraic, trivial, Cert.Kernel2Ideal.Down.algebraic, trivial, Cert.Kernel3Ideal.RnnOut.algebraic, trivial, Cert.Kernel4Ideal.AttnOut.algebraic, trivial, Cert.Kernel5Ideal.RnnIn.algebraic, trivial, Cert.Kernel6Ideal.AttnGate.algebraic, trivial, Cert.Kernel7Ideal.AttnRest.algebraic, trivial, Cert.Kernel8Ideal.Rotary.algebraic, trivial, Cert.Kernel9Ideal.DownLast.algebraic, trivial, Cert.Kernel10Ideal.Ret.algebraic⟩

end Cert.Proof

end
